-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Reference (m : (ℓ : Loc Cert.Reference.nD Cert.Reference.τ Cert.Reference.sig) → Buf (Elt Bits) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "gain_a4" .f32 0x3D747B94#32 (((9 * Real.pi⁻¹) * (208351 / 10000000) : ℝ) : EReal)
  ∧ IdealRules.named_const.Statement Cert.KernelIdeal.κ "gain_a3" .f32 0xBE79BDCC#32 (((9 * Real.pi⁻¹) * (-85133 / 1000000) : ℝ) : EReal)
  ∧ IdealRules.named_const.Statement Cert.KernelIdeal.κ "gain_a2" .f32 0x3F041CE6#32 (((9 * Real.pi⁻¹) * (180141 / 1000000) : ℝ) : EReal)
  ∧ IdealRules.named_const.Statement Cert.KernelIdeal.κ "gain_a1" .f32 0xBF723CAD#32 (((9 * Real.pi⁻¹) * (-660599 / 2000000) : ℝ) : EReal)
  ∧ IdealRules.named_const.Statement Cert.KernelIdeal.κ "gain_a0" .f32 0x4037526A#32 (((9 * Real.pi⁻¹) * (499933 / 500000) : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v219) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def holds_KernelIdeal_within_one [hKernelIdeal : Cert.KernelIdeal.Facts] [hPost_within_one : Cert.Post_within_one.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ (Cert.Post_within_one.fn (F := Ideal) (m ((c.tc : Thread Cert.KernelIdeal.nD Cert.KernelIdeal.τ).loc Cert.KernelIdeal.main_arg0)) (r.2.mem ((c.tc : Thread Cert.KernelIdeal.nD Cert.KernelIdeal.τ).loc Cert.KernelIdeal.main_v3))) = (fun _ => 1#1))

def Claim : Prop :=
  ∃ (hKernel : Cert.Kernel.Facts) (hKernelIdeal : Cert.KernelIdeal.Facts) (hReference : Cert.Reference.Facts) (hReferenceIdeal : Cert.ReferenceIdeal.Facts) (hPost_within_one : Cert.Post_within_one.Facts),
    quiescent_Kernel (hKernel := hKernel)
    ∧ quiescent_KernelIdeal (hKernelIdeal := hKernelIdeal)
    ∧ quiescent_Reference (hReference := hReference)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
    ∧ holds_KernelIdeal_within_one (hKernelIdeal := hKernelIdeal) (hPost_within_one := hPost_within_one)
-- ==== Post_within_one.lean ====
abbrev S16x3x512x512 : Shape := ⟨4, ![16, 3, 512, 512]⟩
abbrev S16x1x31x31x2x2x9 : Shape := ⟨7, ![16, 1, 31, 31, 2, 2, 9]⟩
abbrev S_ : Shape := ⟨0, ![]⟩

class Facts : Prop where
  bcast_S_S16x1x31x31x2x2x9 : S_.BroadcastsInDim S16x1x31x31x2x2x9 (![] : Fin 0 → Fin S16x1x31x31x2x2x9.rank)

variable [Facts]

def fn {F : FTy → Type} [FloatOps F] (main_arg0 : FVec F S16x3x512x512 .f32) (main_arg1 : FVec F S16x1x31x31x2x2x9 .f32) : IVec S16x1x31x31x2x2x9 1 :=
  let main_v0 : FVec F S16x1x31x31x2x2x9 .f32 := Host.absf main_arg1
  let main_cst : FVec F S_ .f32 := constant S_ .f32 0x3F800000#32
  let main_v1 : FVec F S16x1x31x31x2x2x9 .f32 := broadcastInDim S16x1x31x31x2x2x9 ![] bcast_S_S16x1x31x31x2x2x9 main_cst
  let main_v2 : IVec S16x1x31x31x2x2x9 1 := cmpf .ole main_v0 main_v1
  main_v2
-- ==== Kernel.lean ====
abbrev S16x3x512x512 : Shape := ⟨4, ![16, 3, 512, 512]⟩
abbrev S16x36x31x31 : Shape := ⟨4, ![16, 36, 31, 31]⟩
abbrev S4x3x512x512 : Shape := ⟨4, ![4, 3, 512, 512]⟩
abbrev S4x36x31x31 : Shape := ⟨4, ![4, 36, 31, 31]⟩
abbrev S1x3x512x512 : Shape := ⟨4, ![1, 3, 512, 512]⟩
abbrev S3x512x512 : Shape := ⟨3, ![3, 512, 512]⟩
abbrev S1x512x512 : Shape := ⟨3, ![1, 512, 512]⟩
abbrev S512x512 : Shape := ⟨2, ![512, 512]⟩
abbrev S512x511 : Shape := ⟨2, ![512, 511]⟩
abbrev S512x1 : Shape := ⟨2, ![512, 1]⟩
abbrev S1x512 : Shape := ⟨2, ![1, 512]⟩
abbrev S511x512 : Shape := ⟨2, ![511, 512]⟩
abbrev S32x512 : Shape := ⟨2, ![32, 512]⟩
abbrev S288x512 : Shape := ⟨2, ![288, 512]⟩
abbrev S512x32 : Shape := ⟨2, ![512, 32]⟩
abbrev S288x32 : Shape := ⟨2, ![288, 32]⟩
abbrev S9x32x32 : Shape := ⟨3, ![9, 32, 32]⟩
abbrev S32x32 : Shape := ⟨2, ![32, 32]⟩
abbrev S31x31 : Shape := ⟨2, ![31, 31]⟩
abbrev S9x31x31 : Shape := ⟨3, ![9, 31, 31]⟩
abbrev S1x31x31 : Shape := ⟨3, ![1, 31, 31]⟩
abbrev S9x1x31x31 : Shape := ⟨4, ![9, 1, 31, 31]⟩
abbrev S9x4x31x31 : Shape := ⟨4, ![9, 4, 31, 31]⟩
abbrev S1x1x31x31 : Shape := ⟨4, ![1, 1, 31, 31]⟩
abbrev S36x31x31 : Shape := ⟨3, ![36, 31, 31]⟩
abbrev S1x36x31x31 : Shape := ⟨4, ![1, 36, 31, 31]⟩
abbrev S16x9x2x2x31x31 : Shape := ⟨6, ![16, 9, 2, 2, 31, 31]⟩
abbrev S16x31x31x2x2x9 : Shape := ⟨6, ![16, 31, 31, 2, 2, 9]⟩
abbrev S16x1x31x31x2x2x9 : Shape := ⟨7, ![16, 1, 31, 31, 2, 2, 9]⟩

abbrev nBuf : Space → Nat
  | .hbm => 5
  | .vmem => 4
  | .smem => 0
  | _ => 0

abbrev bufTy : (tb : Table) → Fin (tcTables nBuf tb) → BufTy
  | .hbm, ⟨0, _⟩ => ⟨S16x3x512x512, .f32⟩
  | .hbm, ⟨1, _⟩ => ⟨S16x36x31x31, .f32⟩
  | .hbm, ⟨2, _⟩ => ⟨S16x9x2x2x31x31, .f32⟩
  | .hbm, ⟨3, _⟩ => ⟨S16x31x31x2x2x9, .f32⟩
  | .hbm, ⟨4, _⟩ => ⟨S16x1x31x31x2x2x9, .f32⟩
  | .local _ .vmem, ⟨0, _⟩ => ⟨S4x3x512x512, .f32⟩
  | .local _ .vmem, ⟨1, _⟩ => ⟨S4x3x512x512, .f32⟩
  | .local _ .vmem, ⟨2, _⟩ => ⟨S4x36x31x31, .f32⟩
  | .local _ .vmem, ⟨3, _⟩ => ⟨S4x36x31x31, .f32⟩
  | _, _ => ⟨S16x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S4x3x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x36x31x31 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== KernelIdeal.lean ====
variable {F : FTy → Type} [FloatOps F] [Named F]
def κ : String → Option EReal := fun
  | "gain_a0" => some (((9 * Real.pi⁻¹) * (499933 / 500000) : ℝ) : EReal)
  | "gain_a1" => some (((9 * Real.pi⁻¹) * (-660599 / 2000000) : ℝ) : EReal)
  | "gain_a2" => some (((9 * Real.pi⁻¹) * (180141 / 1000000) : ℝ) : EReal)
  | "gain_a3" => some (((9 * Real.pi⁻¹) * (-85133 / 1000000) : ℝ) : EReal)
  | "gain_a4" => some (((9 * Real.pi⁻¹) * (208351 / 10000000) : ℝ) : EReal)
  | _ => none
-- ==== Reference.lean ====
abbrev S16x3x512x512 : Shape := ⟨4, ![16, 3, 512, 512]⟩
abbrev S_ : Shape := ⟨0, ![]⟩
abbrev S16x3x1x512 : Shape := ⟨4, ![16, 3, 1, 512]⟩
abbrev S16x3x513x512 : Shape := ⟨4, ![16, 3, 513, 512]⟩
abbrev S16x3x514x512 : Shape := ⟨4, ![16, 3, 514, 512]⟩
abbrev S16x3x514x1 : Shape := ⟨4, ![16, 3, 514, 1]⟩
abbrev S16x3x514x513 : Shape := ⟨4, ![16, 3, 514, 513]⟩
abbrev S16x3x514x514 : Shape := ⟨4, ![16, 3, 514, 514]⟩
abbrev S16x1x512x512 : Shape := ⟨4, ![16, 1, 512, 512]⟩
abbrev S16x512x512 : Shape := ⟨3, ![16, 512, 512]⟩
abbrev S16x512x512x9 : Shape := ⟨4, ![16, 512, 512, 9]⟩
abbrev S16x32x16x512x9 : Shape := ⟨5, ![16, 32, 16, 512, 9]⟩
abbrev S16x32x512x9 : Shape := ⟨4, ![16, 32, 512, 9]⟩
abbrev S16x32x32x16x9 : Shape := ⟨5, ![16, 32, 32, 16, 9]⟩
abbrev S16x32x32x9 : Shape := ⟨4, ![16, 32, 32, 9]⟩
abbrev S16x31x31x9 : Shape := ⟨4, ![16, 31, 31, 9]⟩
abbrev S16x31x31x1x9 : Shape := ⟨5, ![16, 31, 31, 1, 9]⟩
abbrev S16x31x31x2x9 : Shape := ⟨5, ![16, 31, 31, 2, 9]⟩
abbrev S16x31x31x1x2x9 : Shape := ⟨6, ![16, 31, 31, 1, 2, 9]⟩
abbrev S16x31x31x2x2x9 : Shape := ⟨6, ![16, 31, 31, 2, 2, 9]⟩
abbrev S16x31x31x2x2 : Shape := ⟨5, ![16, 31, 31, 2, 2]⟩
abbrev S16x31x31x2 : Shape := ⟨4, ![16, 31, 31, 2]⟩
abbrev S16x31x31 : Shape := ⟨3, ![16, 31, 31]⟩
abbrev S16x1x31x31x2x2x9 : Shape := ⟨7, ![16, 1, 31, 31, 2, 2, 9]⟩

abbrev nBuf : Space → Nat
  | .hbm => 270
  | .vmem => 0
  | .smem => 0
  | _ => 0

abbrev hbmTy0_0 (i : Nat) : BufTy := match i % 128 with
  | 0 => ⟨S16x3x512x512, .f32⟩
  | 1 => ⟨S_, .f32⟩
  | 2 => ⟨S_, .f32⟩
  | 3 => ⟨S_, .f32⟩
  | 4 => ⟨S_, .f32⟩
  | 5 => ⟨S16x3x1x512, .f32⟩
  | 6 => ⟨S16x3x1x512, .f32⟩
  | 7 => ⟨S16x3x513x512, .f32⟩
  | 8 => ⟨S16x3x514x512, .f32⟩
  | 9 => ⟨S16x3x514x1, .f32⟩
  | 10 => ⟨S16x3x514x1, .f32⟩
  | 11 => ⟨S16x3x514x513, .f32⟩
  | 12 => ⟨S16x3x514x514, .f32⟩
  | 13 => ⟨S16x3x512x512, .f32⟩
  | 14 => ⟨S_, .f32⟩
  | 15 => ⟨S16x3x512x512, .f32⟩
  | 16 => ⟨S16x3x512x512, .f32⟩
  | 17 => ⟨S16x3x512x512, .f32⟩
  | 18 => ⟨S_, .f32⟩
  | 19 => ⟨S16x3x512x512, .f32⟩
  | 20 => ⟨S16x3x512x512, .f32⟩
  | 21 => ⟨S16x3x512x512, .f32⟩
  | 22 => ⟨S_, .f32⟩
  | 23 => ⟨S16x3x512x512, .f32⟩
  | 24 => ⟨S16x3x512x512, .f32⟩
  | 25 => ⟨S16x3x512x512, .f32⟩
  | 26 => ⟨S_, .f32⟩
  | 27 => ⟨S16x3x512x512, .f32⟩
  | 28 => ⟨S16x3x512x512, .f32⟩
  | 29 => ⟨S16x3x512x512, .f32⟩
  | 30 => ⟨S_, .f32⟩
  | 31 => ⟨S16x3x512x512, .f32⟩
  | 32 => ⟨S16x3x512x512, .f32⟩
  | 33 => ⟨S16x3x512x512, .f32⟩
  | 34 => ⟨S_, .f32⟩
  | 35 => ⟨S16x3x512x512, .f32⟩
  | 36 => ⟨S16x3x512x512, .f32⟩
  | 37 => ⟨S16x3x512x512, .f32⟩
  | 38 => ⟨S16x3x512x512, .f32⟩
  | 39 => ⟨S16x3x512x512, .f32⟩
  | 40 => ⟨S16x3x512x512, .f32⟩
  | 41 => ⟨S16x3x512x512, .f32⟩
  | 42 => ⟨S16x3x512x512, .f32⟩
  | 43 => ⟨S_, .f32⟩
  | 44 => ⟨S16x3x512x512, .f32⟩
  | 45 => ⟨S16x3x512x512, .f32⟩
  | 46 => ⟨S16x3x512x512, .f32⟩
  | 47 => ⟨S_, .f32⟩
  | 48 => ⟨S16x3x512x512, .f32⟩
  | 49 => ⟨S16x3x512x512, .f32⟩
  | 50 => ⟨S16x3x512x512, .f32⟩
  | 51 => ⟨S_, .f32⟩
  | 52 => ⟨S16x3x512x512, .f32⟩
  | 53 => ⟨S16x3x512x512, .f32⟩
  | 54 => ⟨S16x3x512x512, .f32⟩
  | 55 => ⟨S_, .f32⟩
  | 56 => ⟨S16x3x512x512, .f32⟩
  | 57 => ⟨S16x3x512x512, .f32⟩
  | 58 => ⟨S16x3x512x512, .f32⟩
  | 59 => ⟨S_, .f32⟩
  | 60 => ⟨S16x3x512x512, .f32⟩
  | 61 => ⟨S16x3x512x512, .f32⟩
  | 62 => ⟨S16x3x512x512, .f32⟩
  | 63 => ⟨S_, .f32⟩
  | 64 => ⟨S16x3x512x512, .f32⟩
  | 65 => ⟨S16x3x512x512, .f32⟩
  | 66 => ⟨S16x3x512x512, .f32⟩
  | 67 => ⟨S16x3x512x512, .f32⟩
  | 68 => ⟨S16x3x512x512, .f32⟩
  | 69 => ⟨S16x3x512x512, .f32⟩
  | 70 => ⟨S16x3x512x512, .f32⟩
  | 71 => ⟨S16x3x512x512, .f32⟩
  | 72 => ⟨S16x3x512x512, .f32⟩
  | 73 => ⟨S16x3x512x512, .f32⟩
  | 74 => ⟨S16x3x512x512, .f32⟩
  | 75 => ⟨S16x1x512x512, .f32⟩
  | 76 => ⟨S16x512x512, .f32⟩
  | 77 => ⟨S16x1x512x512, .f32⟩
  | 78 => ⟨S16x512x512, .f32⟩
  | 79 => ⟨S16x512x512, .f32⟩
  | 80 => ⟨S16x1x512x512, .f32⟩
  | 81 => ⟨S16x512x512, .f32⟩
  | 82 => ⟨S16x512x512, .f32⟩
  | 83 => ⟨S16x1x512x512, .f32⟩
  | 84 => ⟨S16x512x512, .f32⟩
  | 85 => ⟨S16x512x512, .i1⟩
  | 86 => ⟨S16x1x512x512, .f32⟩
  | 87 => ⟨S16x512x512, .f32⟩
  | 88 => ⟨S16x512x512, .i1⟩
  | 89 => ⟨S16x1x512x512, .f32⟩
  | 90 => ⟨S16x512x512, .f32⟩
  | 91 => ⟨S16x1x512x512, .f32⟩
  | 92 => ⟨S16x512x512, .f32⟩
  | 93 => ⟨S16x1x512x512, .f32⟩
  | 94 => ⟨S16x512x512, .f32⟩
  | 95 => ⟨S16x512x512, .f32⟩
  | 96 => ⟨S16x512x512, .f32⟩
  | 97 => ⟨S16x1x512x512, .f32⟩
  | 98 => ⟨S16x512x512, .f32⟩
  | 99 => ⟨S16x1x512x512, .f32⟩
  | 100 => ⟨S16x512x512, .f32⟩
  | 101 => ⟨S16x1x512x512, .f32⟩
  | 102 => ⟨S16x512x512, .f32⟩
  | 103 => ⟨S16x512x512, .f32⟩
  | 104 => ⟨S16x512x512, .f32⟩
  | 105 => ⟨S16x512x512, .f32⟩
  | 106 => ⟨S16x512x512, .f32⟩
  | 107 => ⟨S16x512x512, .i1⟩
  | 108 => ⟨S16x512x512, .f32⟩
  | 109 => ⟨S16x512x512, .f32⟩
  | 110 => ⟨S_, .f32⟩
  | 111 => ⟨S16x512x512, .f32⟩
  | 112 => ⟨S16x512x512, .i1⟩
  | 113 => ⟨S_, .f32⟩
  | 114 => ⟨S16x512x512, .f32⟩
  | 115 => ⟨S16x512x512, .f32⟩
  | 116 => ⟨S16x512x512, .f32⟩
  | 117 => ⟨S16x512x512, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S16x3x512x512, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S16x512x512, .f32⟩
  | 6 => ⟨S16x512x512, .f32⟩
  | 7 => ⟨S16x512x512, .f32⟩
  | 8 => ⟨S16x512x512, .f32⟩
  | 9 => ⟨S16x512x512, .f32⟩
  | 10 => ⟨S16x512x512, .f32⟩
  | 11 => ⟨S16x512x512, .f32⟩
  | 12 => ⟨S16x512x512, .f32⟩
  | 13 => ⟨S16x512x512, .f32⟩
  | 14 => ⟨S16x512x512, .f32⟩
  | 15 => ⟨S16x512x512, .f32⟩
  | 16 => ⟨S16x512x512, .f32⟩
  | 17 => ⟨S16x512x512, .f32⟩
  | 18 => ⟨S16x512x512, .f32⟩
  | 19 => ⟨S_, .f32⟩
  | 20 => ⟨S_, .f32⟩
  | 21 => ⟨S16x512x512, .f32⟩
  | 22 => ⟨S_, .f32⟩
  | 23 => ⟨S16x512x512, .f32⟩
  | 24 => ⟨S16x512x512, .i1⟩
  | 25 => ⟨S16x512x512, .f32⟩
  | 26 => ⟨S16x512x512, .f32⟩
  | 27 => ⟨S16x512x512, .f32⟩
  | 28 => ⟨S16x512x512, .f32⟩
  | 29 => ⟨S_, .f32⟩
  | 30 => ⟨S16x512x512, .f32⟩
  | 31 => ⟨S16x512x512, .i1⟩
  | 32 => ⟨S16x512x512, .i1⟩
  | 33 => ⟨S_, .f32⟩
  | 34 => ⟨S16x512x512, .f32⟩
  | 35 => ⟨S16x512x512, .i1⟩
  | 36 => ⟨S16x512x512, .f32⟩
  | 37 => ⟨S16x512x512, .f32⟩
  | 38 => ⟨S16x512x512, .f32⟩
  | 39 => ⟨S16x512x512, .f32⟩
  | 40 => ⟨S16x512x512, .f32⟩
  | 41 => ⟨S16x512x512, .f32⟩
  | 42 => ⟨S16x512x512, .f32⟩
  | 43 => ⟨S16x512x512, .f32⟩
  | 44 => ⟨S16x512x512, .f32⟩
  | 45 => ⟨S16x512x512, .f32⟩
  | 46 => ⟨S16x512x512, .f32⟩
  | 47 => ⟨S16x512x512, .f32⟩
  | 48 => ⟨S16x512x512, .f32⟩
  | 49 => ⟨S16x512x512, .f32⟩
  | 50 => ⟨S16x512x512, .f32⟩
  | 51 => ⟨S16x512x512, .i32⟩
  | 52 => ⟨S16x512x512, .f32⟩
  | 53 => ⟨S16x512x512, .f32⟩
  | 54 => ⟨S16x512x512, .f32⟩
  | 55 => ⟨S_, .f32⟩
  | 56 => ⟨S16x512x512, .f32⟩
  | 57 => ⟨S16x512x512, .f32⟩
  | 58 => ⟨S16x512x512, .f32⟩
  | 59 => ⟨S16x512x512, .f32⟩
  | 60 => ⟨S16x512x512, .f32⟩
  | 61 => ⟨S_, .f32⟩
  | 62 => ⟨S16x512x512, .f32⟩
  | 63 => ⟨S16x512x512, .f32⟩
  | 64 => ⟨S16x512x512, .f32⟩
  | 65 => ⟨S16x512x512, .f32⟩
  | 66 => ⟨S16x512x512x9, .i32⟩
  | 67 => ⟨S_, .i32⟩
  | 68 => ⟨S16x512x512, .i32⟩
  | 69 => ⟨S16x512x512, .i32⟩
  | 70 => ⟨S16x512x512x9, .i32⟩
  | 71 => ⟨S16x512x512x9, .i1⟩
  | 72 => ⟨S16x512x512x9, .f32⟩
  | 73 => ⟨S_, .f32⟩
  | 74 => ⟨S16x512x512x9, .f32⟩
  | 75 => ⟨S16x512x512x9, .f32⟩
  | 76 => ⟨S_, .i32⟩
  | 77 => ⟨S16x512x512, .i32⟩
  | 78 => ⟨S16x512x512, .i32⟩
  | 79 => ⟨S16x512x512x9, .i32⟩
  | 80 => ⟨S_, .i32⟩
  | 81 => ⟨S16x512x512, .i32⟩
  | 82 => ⟨S16x512x512, .i32⟩
  | 83 => ⟨S16x512x512x9, .i32⟩
  | 84 => ⟨S16x512x512x9, .i1⟩
  | 85 => ⟨S16x512x512x9, .f32⟩
  | 86 => ⟨S_, .f32⟩
  | 87 => ⟨S16x512x512x9, .f32⟩
  | 88 => ⟨S16x512x512x9, .f32⟩
  | 89 => ⟨S16x512x512x9, .f32⟩
  | 90 => ⟨S16x32x16x512x9, .f32⟩
  | 91 => ⟨S_, .f32⟩
  | 92 => ⟨S16x32x512x9, .f32⟩
  | 93 => ⟨S16x32x32x16x9, .f32⟩
  | 94 => ⟨S_, .f32⟩
  | 95 => ⟨S16x32x32x9, .f32⟩
  | 96 => ⟨S_, .f32⟩
  | 97 => ⟨S16x32x32x9, .f32⟩
  | 98 => ⟨S16x32x32x9, .f32⟩
  | 99 => ⟨S16x31x31x9, .f32⟩
  | 100 => ⟨S16x31x31x9, .f32⟩
  | 101 => ⟨S16x31x31x9, .f32⟩
  | 102 => ⟨S16x31x31x9, .f32⟩
  | 103 => ⟨S16x31x31x1x9, .f32⟩
  | 104 => ⟨S16x31x31x1x9, .f32⟩
  | 105 => ⟨S16x31x31x2x9, .f32⟩
  | 106 => ⟨S16x31x31x1x9, .f32⟩
  | 107 => ⟨S16x31x31x1x9, .f32⟩
  | 108 => ⟨S16x31x31x2x9, .f32⟩
  | 109 => ⟨S16x31x31x1x2x9, .f32⟩
  | 110 => ⟨S16x31x31x1x2x9, .f32⟩
  | 111 => ⟨S16x31x31x2x2x9, .f32⟩
  | 112 => ⟨S16x31x31x2x2x9, .f32⟩
  | 113 => ⟨S_, .f32⟩
  | 114 => ⟨S16x31x31x2x2, .f32⟩
  | 115 => ⟨S_, .f32⟩
  | 116 => ⟨S16x31x31x2, .f32⟩
  | 117 => ⟨S_, .f32⟩
  | 118 => ⟨S16x31x31, .f32⟩
  | 119 => ⟨S16x31x31, .f32⟩
  | 120 => ⟨S_, .f32⟩
  | 121 => ⟨S16x31x31, .f32⟩
  | 122 => ⟨S16x31x31, .f32⟩
  | 123 => ⟨S16x31x31x2x2x9, .f32⟩
  | 124 => ⟨S16x31x31x2x2x9, .f32⟩
  | 125 => ⟨S_, .f32⟩
  | 126 => ⟨S16x31x31x2x2x9, .f32⟩
  | 127 => ⟨S16x31x31x2x2x9, .f32⟩
  | _ => ⟨S16x3x512x512, .f32⟩

abbrev hbmTy0_2 (i : Nat) : BufTy := match i % 128 with
  | 0 => ⟨S16x31x31x2x2x9, .f32⟩
  | 1 => ⟨S_, .f32⟩
  | 2 => ⟨S16x31x31x2x2, .f32⟩
  | 3 => ⟨S_, .f32⟩
  | 4 => ⟨S16x31x31x2, .f32⟩
  | 5 => ⟨S_, .f32⟩
  | 6 => ⟨S16x31x31, .f32⟩
  | 7 => ⟨S16x31x31, .f32⟩
  | 8 => ⟨S_, .f32⟩
  | 9 => ⟨S16x31x31, .f32⟩
  | 10 => ⟨S16x31x31, .f32⟩
  | 11 => ⟨S16x31x31x2x2x9, .f32⟩
  | 12 => ⟨S16x31x31x2x2x9, .f32⟩
  | 13 => ⟨S16x1x31x31x2x2x9, .f32⟩
  | _ => ⟨S16x3x512x512, .f32⟩

abbrev hbmTy (i : Nat) : BufTy := match i / 128 with
  | 0 => hbmTy0_0 i
  | 1 => hbmTy0_1 i
  | 2 => hbmTy0_2 i
  | _ => ⟨S16x3x512x512, .f32⟩

abbrev bufTy : (tb : Table) → Fin (tcTables nBuf tb) → BufTy
  | .hbm, ⟨i, _⟩ => hbmTy i
  | _, _ => ⟨S16x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_1 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_2 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_3 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_4 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_5 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_6 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_7 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_8 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_9 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_10 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_11 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_12 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_cst_13 : Ref sig .tc := ⟨.hbm, 110, rfl⟩
abbrev main_v95 : Ref sig .tc := ⟨.hbm, 111, rfl⟩
abbrev main_v96 : Ref sig .tc := ⟨.hbm, 112, rfl⟩
abbrev main_cst_14 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_cst_15 : Ref sig .tc := ⟨.hbm, 118, rfl⟩
abbrev main_cst_16 : Ref sig .tc := ⟨.hbm, 119, rfl⟩
abbrev main_v101 : Ref sig .tc := ⟨.hbm, 120, rfl⟩
abbrev main_cst_17 : Ref sig .tc := ⟨.hbm, 121, rfl⟩
abbrev main_cst_18 : Ref sig .tc := ⟨.hbm, 122, rfl⟩
abbrev main_v102 : Ref sig .tc := ⟨.hbm, 123, rfl⟩
abbrev main_cst_19 : Ref sig .tc := ⟨.hbm, 124, rfl⟩
abbrev main_cst_20 : Ref sig .tc := ⟨.hbm, 125, rfl⟩
abbrev main_v103 : Ref sig .tc := ⟨.hbm, 126, rfl⟩
abbrev main_cst_21 : Ref sig .tc := ⟨.hbm, 127, rfl⟩
abbrev main_cst_22 : Ref sig .tc := ⟨.hbm, 128, rfl⟩
abbrev main_v104 : Ref sig .tc := ⟨.hbm, 129, rfl⟩
abbrev main_cst_23 : Ref sig .tc := ⟨.hbm, 130, rfl⟩
abbrev main_cst_24 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_cst_25 : Ref sig .tc := ⟨.hbm, 147, rfl⟩
abbrev main_v120 : Ref sig .tc := ⟨.hbm, 148, rfl⟩
abbrev main_v121 : Ref sig .tc := ⟨.hbm, 149, rfl⟩
abbrev main_cst_26 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_cst_27 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_cst_28 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_cst_29 : Ref sig .tc := ⟨.hbm, 183, rfl⟩
abbrev main_v152 : Ref sig .tc := ⟨.hbm, 184, rfl⟩
abbrev main_v153 : Ref sig .tc := ⟨.hbm, 185, rfl⟩
abbrev main_v154 : Ref sig .tc := ⟨.hbm, 186, rfl⟩
abbrev main_v155 : Ref sig .tc := ⟨.hbm, 187, rfl⟩
abbrev main_v156 : Ref sig .tc := ⟨.hbm, 188, rfl⟩
abbrev main_cst_30 : Ref sig .tc := ⟨.hbm, 189, rfl⟩
abbrev main_v157 : Ref sig .tc := ⟨.hbm, 190, rfl⟩
abbrev main_v158 : Ref sig .tc := ⟨.hbm, 191, rfl⟩
abbrev main_v159 : Ref sig .tc := ⟨.hbm, 192, rfl⟩
abbrev main_v160 : Ref sig .tc := ⟨.hbm, 193, rfl⟩
abbrev main_v161 : Ref sig .tc := ⟨.hbm, 194, rfl⟩
abbrev main_c : Ref sig .tc := ⟨.hbm, 195, rfl⟩
abbrev main_v162 : Ref sig .tc := ⟨.hbm, 196, rfl⟩
abbrev main_v163 : Ref sig .tc := ⟨.hbm, 197, rfl⟩
abbrev main_v164 : Ref sig .tc := ⟨.hbm, 198, rfl⟩
abbrev main_v165 : Ref sig .tc := ⟨.hbm, 199, rfl⟩
abbrev main_v166 : Ref sig .tc := ⟨.hbm, 200, rfl⟩
abbrev main_cst_31 : Ref sig .tc := ⟨.hbm, 201, rfl⟩
abbrev main_v167 : Ref sig .tc := ⟨.hbm, 202, rfl⟩
abbrev main_v168 : Ref sig .tc := ⟨.hbm, 203, rfl⟩
abbrev main_c_32 : Ref sig .tc := ⟨.hbm, 204, rfl⟩
abbrev main_v169 : Ref sig .tc := ⟨.hbm, 205, rfl⟩
abbrev main_v170 : Ref sig .tc := ⟨.hbm, 206, rfl⟩
abbrev main_v171 : Ref sig .tc := ⟨.hbm, 207, rfl⟩
abbrev main_c_33 : Ref sig .tc := ⟨.hbm, 208, rfl⟩
abbrev main_v172 : Ref sig .tc := ⟨.hbm, 209, rfl⟩
abbrev main_v173 : Ref sig .tc := ⟨.hbm, 210, rfl⟩
abbrev main_v174 : Ref sig .tc := ⟨.hbm, 211, rfl⟩
abbrev main_v175 : Ref sig .tc := ⟨.hbm, 212, rfl⟩
abbrev main_v176 : Ref sig .tc := ⟨.hbm, 213, rfl⟩
abbrev main_cst_34 : Ref sig .tc := ⟨.hbm, 214, rfl⟩
abbrev main_v177 : Ref sig .tc := ⟨.hbm, 215, rfl⟩
abbrev main_v178 : Ref sig .tc := ⟨.hbm, 216, rfl⟩
abbrev main_v179 : Ref sig .tc := ⟨.hbm, 217, rfl⟩
abbrev main_v180 : Ref sig .tc := ⟨.hbm, 218, rfl⟩
abbrev main_cst_35 : Ref sig .tc := ⟨.hbm, 219, rfl⟩
abbrev main_v181 : Ref sig .tc := ⟨.hbm, 220, rfl⟩
abbrev main_v182 : Ref sig .tc := ⟨.hbm, 221, rfl⟩
abbrev main_cst_36 : Ref sig .tc := ⟨.hbm, 222, rfl⟩
abbrev main_v183 : Ref sig .tc := ⟨.hbm, 223, rfl⟩
abbrev main_cst_37 : Ref sig .tc := ⟨.hbm, 224, rfl⟩
abbrev main_v184 : Ref sig .tc := ⟨.hbm, 225, rfl⟩
abbrev main_v185 : Ref sig .tc := ⟨.hbm, 226, rfl⟩
abbrev main_v186 : Ref sig .tc := ⟨.hbm, 227, rfl⟩
abbrev main_v187 : Ref sig .tc := ⟨.hbm, 228, rfl⟩
abbrev main_v188 : Ref sig .tc := ⟨.hbm, 229, rfl⟩
abbrev main_v189 : Ref sig .tc := ⟨.hbm, 230, rfl⟩
abbrev main_v190 : Ref sig .tc := ⟨.hbm, 231, rfl⟩
abbrev main_v191 : Ref sig .tc := ⟨.hbm, 232, rfl⟩
abbrev main_v192 : Ref sig .tc := ⟨.hbm, 233, rfl⟩
abbrev main_v193 : Ref sig .tc := ⟨.hbm, 234, rfl⟩
abbrev main_v194 : Ref sig .tc := ⟨.hbm, 235, rfl⟩
abbrev main_v195 : Ref sig .tc := ⟨.hbm, 236, rfl⟩
abbrev main_v196 : Ref sig .tc := ⟨.hbm, 237, rfl⟩
abbrev main_v197 : Ref sig .tc := ⟨.hbm, 238, rfl⟩
abbrev main_v198 : Ref sig .tc := ⟨.hbm, 239, rfl⟩
abbrev main_v199 : Ref sig .tc := ⟨.hbm, 240, rfl⟩
abbrev main_cst_38 : Ref sig .tc := ⟨.hbm, 241, rfl⟩
abbrev main_v200 : Ref sig .tc := ⟨.hbm, 242, rfl⟩
abbrev main_cst_39 : Ref sig .tc := ⟨.hbm, 243, rfl⟩
abbrev main_v201 : Ref sig .tc := ⟨.hbm, 244, rfl⟩
abbrev main_cst_40 : Ref sig .tc := ⟨.hbm, 245, rfl⟩
abbrev main_v202 : Ref sig .tc := ⟨.hbm, 246, rfl⟩
abbrev main_v203 : Ref sig .tc := ⟨.hbm, 247, rfl⟩
abbrev main_cst_41 : Ref sig .tc := ⟨.hbm, 248, rfl⟩
abbrev main_v204 : Ref sig .tc := ⟨.hbm, 249, rfl⟩
abbrev main_v205 : Ref sig .tc := ⟨.hbm, 250, rfl⟩
abbrev main_v206 : Ref sig .tc := ⟨.hbm, 251, rfl⟩
abbrev main_v207 : Ref sig .tc := ⟨.hbm, 252, rfl⟩
abbrev main_cst_42 : Ref sig .tc := ⟨.hbm, 253, rfl⟩
abbrev main_v208 : Ref sig .tc := ⟨.hbm, 254, rfl⟩
abbrev main_v209 : Ref sig .tc := ⟨.hbm, 255, rfl⟩
abbrev main_v210 : Ref sig .tc := ⟨.hbm, 256, rfl⟩
abbrev main_cst_43 : Ref sig .tc := ⟨.hbm, 257, rfl⟩
abbrev main_v211 : Ref sig .tc := ⟨.hbm, 258, rfl⟩
abbrev main_cst_44 : Ref sig .tc := ⟨.hbm, 259, rfl⟩
abbrev main_v212 : Ref sig .tc := ⟨.hbm, 260, rfl⟩
abbrev main_cst_45 : Ref sig .tc := ⟨.hbm, 261, rfl⟩
abbrev main_v213 : Ref sig .tc := ⟨.hbm, 262, rfl⟩
abbrev main_v214 : Ref sig .tc := ⟨.hbm, 263, rfl⟩
abbrev main_cst_46 : Ref sig .tc := ⟨.hbm, 264, rfl⟩
abbrev main_v215 : Ref sig .tc := ⟨.hbm, 265, rfl⟩
abbrev main_v216 : Ref sig .tc := ⟨.hbm, 266, rfl⟩
abbrev main_v217 : Ref sig .tc := ⟨.hbm, 267, rfl⟩
abbrev main_v218 : Ref sig .tc := ⟨.hbm, 268, rfl⟩
abbrev main_v219 : Ref sig .tc := ⟨.hbm, 269, rfl⟩

abbrev nD : Nat := 1
abbrev τ : Topo := Topo.v7x

variable {F : FTy → Type} [FloatOps F]
-- ==== Proof.Frames.lean ====
/- The frames of the four programs and the statements of the named constants. -/
module

public import proofs.«01_k».proof.Defs
public import proofs.«01_k».proof.Proof.Gen.Kernel.Frame
public import proofs.«01_k».proof.Proof.Gen.KernelIdeal.Frame
public import proofs.«01_k».proof.Proof.Gen.Reference.Run
public import proofs.«01_k».proof.Proof.Gen.ReferenceIdeal.Run
public import Idealize.ShloMosaic.Lib.Claim

@[expose] public section

noncomputable section

namespace Cert.HogClaims

open Idealize.ShloMosaic Idealize.SL.Sem

/-- The kernel as printed runs to the end, its argument unchanged, every counter back at zero. -/
theorem frame_kernel : Cert.quiescent_Kernel := fun m ρ _ => Cert.Kernel.Gen.frame m ρ

/-- The same for the kernel read over the extended reals. -/
theorem frame_ideal : Cert.quiescent_KernelIdeal := fun m ρ _ => Cert.KernelIdeal.Gen.frame m ρ

/-- The reference as printed runs to the end, its argument unchanged; it has no counters. -/
theorem frame_reference_printed : Cert.quiescent_Reference := fun m ρ _ =>
  (θ_run Cert.Reference.defs _ _).mono
    (fun r h => ⟨fun c => (h c).2, Idealize.ShloMosaic.sem_eq_zero_of_no_sems (by decide) r.2⟩)
    (Cert.Reference.Value.run m ρ)

/-- The reference read over the extended reals runs to the end, its argument unchanged; it has no counters. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run m ρ)

/-- Each named constant of the kernel is 9/π times the decimal coefficient its name stands for. -/
theorem preserves : Cert.preserves_Kernel_KernelIdeal :=
  ⟨IdealRules.named_const.statement _ _ _ _ _ rfl, IdealRules.named_const.statement _ _ _ _ _ rfl,
    IdealRules.named_const.statement _ _ _ _ _ rfl, IdealRules.named_const.statement _ _ _ _ _ rfl,
    IdealRules.named_const.statement _ _ _ _ _ rfl⟩

end Cert.HogClaims

end
-- ==== Proof.Image.lean ====
/- What the kernel computes of ONE image, step by step, each step a function of the arrays it reads; and that the four
   stores of the kernel's body are this one function of the four images of the block. -/
module

public import proofs.«01_k».proof.Proof.Gen.KernelIdeal.Frame

@[expose] public section

noncomputable section

namespace Cert.HogImage

open Idealize.ShloMosaic Cert.KernelIdeal Cert.KernelIdeal.Gen

/-- A 512x512 plane. -/
abbrev Plane (φ : FTy) := FVec Ideal S512x512 φ

/-- The plane whose entry at column w is the entry at column w + 1, column 510 at the last one. -/
def right (a : Plane .f32) : Plane .f32 :=
  concatenate S512x512 1 [⟨S512x511, extractStridedSlice S512x511 ![0, 1] a slices_S512x512_o0_1_S512x511⟩,
    ⟨S512x1, extractStridedSlice S512x1 ![0, 510] a slices_S512x512_o0_510_S512x1⟩] concatenates_S512x511_S512x1_S512x512_d1

/-- The plane whose entry at column w is the entry at column w - 1, column 1 at the first one. -/
def left (a : Plane .f32) : Plane .f32 :=
  concatenate S512x512 1 [⟨S512x1, extractStridedSlice S512x1 ![0, 1] a slices_S512x512_o0_1_S512x1⟩,
    ⟨S512x511, extractStridedSlice S512x511 ![0, 0] a slices_S512x512_o0_0_S512x511⟩] concatenates_S512x1_S512x511_S512x512_d1

/-- The plane whose entry at row h is the entry at row h - 1, row 1 at the first one. -/
def up (a : Plane .f32) : Plane .f32 :=
  concatenate S512x512 0 [⟨S1x512, extractStridedSlice S1x512 ![1, 0] a slices_S512x512_o1_0_S1x512⟩,
    ⟨S511x512, extractStridedSlice S511x512 ![0, 0] a slices_S512x512_o0_0_S511x512⟩] concatenates_S1x512_S511x512_S512x512_d0

/-- The plane whose entry at row h is the entry at row h + 1, row 510 at the last one. -/
def down (a : Plane .f32) : Plane .f32 :=
  concatenate S512x512 0 [⟨S511x512, extractStridedSlice S511x512 ![1, 0] a slices_S512x512_o1_0_S511x512⟩,
    ⟨S1x512, extractStridedSlice S1x512 ![510, 0] a slices_S512x512_o510_0_S1x512⟩] concatenates_S511x512_S1x512_S512x512_d0

/-- A constant plane. -/
abbrev const (b : BitVec 32) : Plane .f32 := broadcast S512x512 (Scalar.ofBits .f32 b : Ideal .f32)

/-- The horizontal difference of a plane. -/
def diff (a : Plane .f32) : Plane .f32 := subf (right a) (left a)

/-- The horizontal sum of a plane, the middle counted twice. -/
def smooth (a : Plane .f32) : Plane .f32 := addf (addf (right a) (left a)) (mulf (const 0x40000000#32) a)

/-- The horizontal gradient of a plane. -/
def gradX (a : Plane .f32) : Plane .f32 :=
  addf (addf (up (diff a)) (down (diff a))) (mulf (const 0x40000000#32) (diff a))

/-- The vertical gradient of a plane. -/
def gradY (a : Plane .f32) : Plane .f32 := subf (down (smooth a)) (up (smooth a))

/-- The squared length of a gradient. -/
def sq (x y : Plane .f32) : Plane .f32 := addf (mulf x x) (mulf y y)

/-- The image as its three planes. -/
def planes (v : Vec Ideal S1x3x512x512 .f32) : FVec Ideal S3x512x512 .f32 :=
  shapeCast S3x512x512 v shapeCasts_S1x3x512x512_S3x512x512

/-- The first plane, after its rounding. -/
def plane0 (v : FVec Ideal S3x512x512 .f32) : Plane .f32 :=
  extf .f32 (truncf .bf16 (shapeCast S512x512 (extractStridedSlice S1x512x512 ![0, 0, 0] v slices_S3x512x512_o0_0_0_S1x512x512)
    shapeCasts_S1x512x512_S512x512) bitsLt_bf16_f32) bitsLt_bf16_f32

/-- The second plane, after its rounding. -/
def plane1 (v : FVec Ideal S3x512x512 .f32) : Plane .f32 :=
  extf .f32 (truncf .bf16 (shapeCast S512x512 (extractStridedSlice S1x512x512 ![1, 0, 0] v slices_S3x512x512_o1_0_0_S1x512x512)
    shapeCasts_S1x512x512_S512x512) bitsLt_bf16_f32) bitsLt_bf16_f32

/-- The third plane, after its rounding. -/
def plane2 (v : FVec Ideal S3x512x512 .f32) : Plane .f32 :=
  extf .f32 (truncf .bf16 (shapeCast S512x512 (extractStridedSlice S1x512x512 ![2, 0, 0] v slices_S3x512x512_o2_0_0_S1x512x512)
    shapeCasts_S1x512x512_S512x512) bitsLt_bf16_f32) bitsLt_bf16_f32

/-- Where the first squared length is not below either of the others. -/
def first (n0 n1 n2 : Plane .f32) : IVec S512x512 1 := andi (cmpf .oge n0 n1) (cmpf .oge n0 n2)

/-- Where the first is not taken and the second squared length is not below the third. -/
def second (n0 n1 n2 : Plane .f32) : IVec S512x512 1 :=
  andi (xori (first n0 n1 n2) (constantI S512x512 1 1#1)) (cmpf .oge n1 n2)

/-- Of three planes, the one whose channel has the greatest squared length. -/
def pick (n0 n1 n2 x0 x1 x2 : Plane .f32) : Plane .f32 :=
  select (first n0 n1 n2) x0 (select (second n0 n1 n2) x1 x2)

/-- The lesser of the two gradient lengths over the greater. -/
def slope (x y : Plane .f32) : Plane .f32 :=
  divf (minimumf (absf x) (absf y))
    (select (cmpf .oeq (maximumf (absf x) (absf y)) (const 0x00000000#32)) (const 0x3F800000#32) (maximumf (absf x) (absf y)))

/-- A named coefficient, on every entry. -/
abbrev coef (n : String) (b : BitVec 32) : Plane .f32 := broadcast S512x512 (Named.named κ n (φ := .f32) b : Ideal .f32)

/-- The polynomial of the arctangent, in bins. -/
def poly (q : Plane .f32) : Plane .f32 :=
  mulf q (addf (coef "gain_a0" 0x4037526A#32) (mulf (mulf q q) (addf (coef "gain_a1" 0xBF723CAD#32) (mulf (mulf q q)
    (addf (coef "gain_a2" 0x3F041CE6#32) (mulf (mulf q q) (addf (coef "gain_a3" 0xBE79BDCC#32)
      (mulf (mulf q q) (coef "gain_a4" 0x3D747B94#32)))))))))

/-- The angle between the gradient and the horizontal, in bins, between 0 and 4.5. -/
def acute (x y : Plane .f32) : Plane .f32 :=
  select (cmpf .ogt (absf y) (absf x)) (subf (const 0x40900000#32) (poly (slope x y))) (poly (slope x y))

/-- The angle modulo a half turn, in bins. -/
def turned (x y : Plane .f32) : Plane .f32 :=
  select (cmpf .olt (mulf x y) (const 0x00000000#32)) (subf (const 0x41100000#32) (acute x y)) (acute x y)

/-- The same, nine bins put back to 0. -/
def coord (x y : Plane .f32) : Plane .f32 :=
  select (cmpf .oge (turned x y) (const 0x41100000#32)) (const 0x00000000#32) (turned x y)

/-- The bin of an angle. -/
def bin (x y : Plane .f32) : Plane .bf16 := truncf .bf16 (floor (coord x y)) bitsLt_bf16_f32

/-- What the next bin gets. -/
def high (x y n : Plane .f32) : Plane .bf16 :=
  truncf .bf16 (mulf (subf (coord x y) (floor (coord x y))) n) bitsLt_bf16_f32

/-- What the bin itself gets. -/
def low (x y n : Plane .f32) : Plane .bf16 := subf (truncf .bf16 n bitsLt_bf16_f32) (high x y n)

/-- The zero plane. -/
def none16 : Plane .bf16 := broadcast S512x512 (Scalar.ofBits .bf16 0x0000#16 : Ideal .bf16)

/-- The column number of every entry of a 32x512 array. -/
def acrossR : IVec S32x512 32 := iota .tc S32x512 32 [1] iota_S32x512_d1_w32

/-- The row number of every entry of a 32x512 array. -/
def downR : IVec S32x512 32 := iota .tc S32x512 32 [0] iota_S32x512_d0_w32

/-- The row number of every entry of a 512x32 array. -/
def downC : IVec S512x32 32 := iota .tc S512x32 32 [0] iota_S512x32_d0_w32

/-- The column number of every entry of a 512x32 array. -/
def acrossC : IVec S512x32 32 := iota .tc S512x32 32 [1] iota_S512x32_d1_w32

/-- Which rows lie in which row of cells: 1 where row h lies in cell row i. -/
def cellRows : FVec Ideal S32x512 .bf16 :=
  truncf .bf16 (sitofp .f32 (extui 32 (cmpi .eq (select (andi (cmpi .ne (subi (extui 32 (cmpi .sgt acrossR (broadcast S32x512 0#32)) natLt_1_32) (extui 32 (cmpi .slt acrossR (broadcast S32x512 0#32)) natLt_1_32)) (broadcast S32x512 (Scalar.subi (Scalar.extui (Scalar.cmpi .sgt 16#32 0#32)) (Scalar.extui (Scalar.cmpi .slt 16#32 0#32))))) (cmpi .ne (remsi acrossR (broadcast S32x512 16#32)) (broadcast S32x512 0#32))) (subi (divsi acrossR (broadcast S32x512 16#32)) (broadcast S32x512 1#32)) (divsi acrossR (broadcast S32x512 16#32))) downR) natLt_1_32)) bitsLt_bf16_f32

/-- Which columns lie in which column of cells. -/
def cellCols : FVec Ideal S512x32 .f32 :=
  sitofp .f32 (extui 32 (cmpi .eq (select (andi (cmpi .ne (subi (extui 32 (cmpi .sgt downC (broadcast S512x32 0#32)) natLt_1_32) (extui 32 (cmpi .slt downC (broadcast S512x32 0#32)) natLt_1_32)) (broadcast S512x32 (Scalar.subi (Scalar.extui (Scalar.cmpi .sgt 16#32 0#32)) (Scalar.extui (Scalar.cmpi .slt 16#32 0#32))))) (cmpi .ne (remsi downC (broadcast S512x32 16#32)) (broadcast S512x32 0#32))) (subi (divsi downC (broadcast S512x32 16#32)) (broadcast S512x32 1#32)) (divsi downC (broadcast S512x32 16#32))) acrossC) natLt_1_32)

/-- The contribution of every pixel to a bin: the bins `w` (its own part) and `w'` (the next bin's part). -/
def mask (w w' : BitVec 16) (b v1 v0 : Plane .bf16) : Plane .bf16 :=
  addf (select (cmpf .oeq b (broadcast S512x512 (Scalar.ofBits .bf16 w : Ideal .bf16))) v0 none16)
    (select (cmpf .oeq b (broadcast S512x512 (Scalar.ofBits .bf16 w' : Ideal .bf16))) v1 none16)

/-- The contributions to a bin added over the rows of each cell. -/
def rowSum (m : Plane .bf16) : FVec Ideal S32x512 .f32 :=
  matmul dot_S32x512_S512x512_S32x512_1_0_0_1_n_n none cellRows m (constant S32x512 .f32 0x00000000#32)

/-- Nine arrays of row sums, one under the other. -/
def stack9 (r0 r1 r2 r3 r4 r5 r6 r7 r8 : FVec Ideal S32x512 .f32) : FVec Ideal S288x512 .f32 :=
  concatenate S288x512 0 [⟨S32x512, r0⟩, ⟨S32x512, r1⟩, ⟨S32x512, r2⟩, ⟨S32x512, r3⟩, ⟨S32x512, r4⟩, ⟨S32x512, r5⟩,
    ⟨S32x512, r6⟩, ⟨S32x512, r7⟩, ⟨S32x512, r8⟩]
    concatenates_S32x512_S32x512_S32x512_S32x512_S32x512_S32x512_S32x512_S32x512_S32x512_S288x512_d0

/-- The nine bins' row sums, one under the other. -/
def rows (b v1 v0 : Plane .bf16) : FVec Ideal S288x512 .f32 :=
  stack9 (rowSum (mask 0x0000#16 0x4100#16 b v1 v0)) (rowSum (mask 0x3F80#16 0x0000#16 b v1 v0))
    (rowSum (mask 0x4000#16 0x3F80#16 b v1 v0)) (rowSum (mask 0x4040#16 0x4000#16 b v1 v0))
    (rowSum (mask 0x4080#16 0x4040#16 b v1 v0)) (rowSum (mask 0x40A0#16 0x4080#16 b v1 v0))
    (rowSum (mask 0x40C0#16 0x40A0#16 b v1 v0)) (rowSum (mask 0x40E0#16 0x40C0#16 b v1 v0))
    (rowSum (mask 0x4100#16 0x40E0#16 b v1 v0))

/-- The histogram: bin, cell row, cell column. -/
def hist (b v1 v0 : Plane .bf16) : FVec Ideal S9x32x32 .f32 :=
  mulf (shapeCast S9x32x32 (matmul dot_S288x512_S512x32_S288x32_1_0_0_1_n_n (some .fp32) (rows b v1 v0) cellCols
    (constant S288x32 .f32 0x00000000#32)) shapeCasts_S288x32_S9x32x32) (broadcast S9x32x32 (Scalar.ofBits .f32 0x3B800000#32 : Ideal .f32))

/-- One over the length of a block, from its squared length. -/
def invLen (s : FVec Ideal S31x31 .f32) : FVec Ideal S31x31 .f32 :=
  divf (broadcast S31x31 (Scalar.ofBits .f32 0x3F800000#32 : Ideal .f32))
    (addf (sqrt s) (broadcast S31x31 (Scalar.ofBits .f32 0x2EDBE6FF#32 : Ideal .f32)))

/-- The sum over the bins of the squares of the histogram. -/
def cellSq (h : FVec Ideal S9x32x32 .f32) : FVec Ideal S32x32 .f32 :=
  multiReduction .add [0] S32x32 (mulf h h) 0x00000000#32 reduces_S9x32x32_S32x32 (.inl rfl) rfl

/-- The squared length of every block of two by two cells. -/
def blockSq (h : FVec Ideal S9x32x32 .f32) : FVec Ideal S31x31 .f32 :=
  addf (addf (addf (extractStridedSlice S31x31 ![0, 0] (cellSq h) slices_S32x32_o0_0_S31x31)
    (extractStridedSlice S31x31 ![1, 0] (cellSq h) slices_S32x32_o1_0_S31x31))
    (extractStridedSlice S31x31 ![0, 1] (cellSq h) slices_S32x32_o0_1_S31x31))
    (extractStridedSlice S31x31 ![1, 1] (cellSq h) slices_S32x32_o1_1_S31x31)

/-- The cells of one corner of the blocks, divided by the blocks' lengths and cut at 0.2. -/
def clip (x : FVec Ideal S9x31x31 .f32) (n : FVec Ideal S31x31 .f32) : FVec Ideal S9x31x31 .f32 :=
  minimumf (mulf x (broadcastTo S9x31x31 (shapeCast S1x31x31 n shapeCasts_S31x31_S1x31x31) broadcasts_S1x31x31_S9x31x31))
    (broadcast S9x31x31 (Scalar.ofBits .f32 0x3E4CCCCD#32 : Ideal .f32))

/-- The sum over the bins of the squares. -/
def binSq (t : FVec Ideal S9x31x31 .f32) : FVec Ideal S31x31 .f32 :=
  multiReduction .add [0] S31x31 (mulf t t) 0x00000000#32 reduces_S9x31x31_S31x31 (.inl rfl) rfl

/-- The four corners of every block, divided by the length and cut. -/
def corner00 (h : FVec Ideal S9x32x32 .f32) : FVec Ideal S9x31x31 .f32 :=
  clip (extractStridedSlice S9x31x31 ![0, 0, 0] h slices_S9x32x32_o0_0_0_S9x31x31) (invLen (blockSq h))
@[inherit_doc corner00] def corner01 (h : FVec Ideal S9x32x32 .f32) : FVec Ideal S9x31x31 .f32 :=
  clip (extractStridedSlice S9x31x31 ![0, 0, 1] h slices_S9x32x32_o0_0_1_S9x31x31) (invLen (blockSq h))
@[inherit_doc corner00] def corner10 (h : FVec Ideal S9x32x32 .f32) : FVec Ideal S9x31x31 .f32 :=
  clip (extractStridedSlice S9x31x31 ![0, 1, 0] h slices_S9x32x32_o0_1_0_S9x31x31) (invLen (blockSq h))
@[inherit_doc corner00] def corner11 (h : FVec Ideal S9x32x32 .f32) : FVec Ideal S9x31x31 .f32 :=
  clip (extractStridedSlice S9x31x31 ![0, 1, 1] h slices_S9x32x32_o0_1_1_S9x31x31) (invLen (blockSq h))

/-- The squared length of every block after the cut. -/
def cutSq (h : FVec Ideal S9x32x32 .f32) : FVec Ideal S31x31 .f32 :=
  addf (addf (addf (addf (broadcast S31x31 (Scalar.ofBits .f32 0x00000000#32 : Ideal .f32)) (binSq (corner00 h)))
    (binSq (corner01 h))) (binSq (corner10 h))) (binSq (corner11 h))

/-- The four corners side by side. -/
def stack4 (c00 c01 c10 c11 : FVec Ideal S9x31x31 .f32) : FVec Ideal S9x4x31x31 .f32 :=
  concatenate S9x4x31x31 1 [⟨S9x1x31x31, shapeCast S9x1x31x31 c00 shapeCasts_S9x31x31_S9x1x31x31⟩,
      ⟨S9x1x31x31, shapeCast S9x1x31x31 c01 shapeCasts_S9x31x31_S9x1x31x31⟩,
      ⟨S9x1x31x31, shapeCast S9x1x31x31 c10 shapeCasts_S9x31x31_S9x1x31x31⟩,
      ⟨S9x1x31x31, shapeCast S9x1x31x31 c11 shapeCasts_S9x31x31_S9x1x31x31⟩]
      concatenates_S9x1x31x31_S9x1x31x31_S9x1x31x31_S9x1x31x31_S9x4x31x31_d1

/-- The block of the result: bin and corner, block row, block column. -/
def blocks (h : FVec Ideal S9x32x32 .f32) : FVec Ideal S1x36x31x31 .f32 :=
  shapeCast S1x36x31x31 (shapeCast S36x31x31 (mulf
    (stack4 (corner00 h) (corner01 h) (corner10 h) (corner11 h))
    (broadcastTo S9x4x31x31 (shapeCast S1x1x31x31 (invLen (cutSq h)) shapeCasts_S31x31_S1x1x31x31) broadcasts_S1x1x31x31_S9x4x31x31))
    shapeCasts_S9x4x31x31_S36x31x31) shapeCasts_S36x31x31_S1x36x31x31

/-- Of the three planes of something computed per channel, the one of the channel with the greatest gradient. -/
def best (a0 a1 a2 x0 x1 x2 : Plane .f32) : Plane .f32 :=
  pick (sq (gradX a0) (gradY a0)) (sq (gradX a1) (gradY a1)) (sq (gradX a2) (gradY a2)) x0 x1 x2

/-- The horizontal gradient of the channel with the greatest gradient. -/
def bestX (a0 a1 a2 : Plane .f32) : Plane .f32 := best a0 a1 a2 (gradX a0) (gradX a1) (gradX a2)

/-- Its vertical gradient. -/
def bestY (a0 a1 a2 : Plane .f32) : Plane .f32 := best a0 a1 a2 (gradY a0) (gradY a1) (gradY a2)

/-- Its length. -/
def bestN (a0 a1 a2 : Plane .f32) : Plane .f32 :=
  sqrt (best a0 a1 a2 (sq (gradX a0) (gradY a0)) (sq (gradX a1) (gradY a1)) (sq (gradX a2) (gradY a2)))

/-- The histogram from the chosen gradients. -/
def histOf (x y n : Plane .f32) : FVec Ideal S9x32x32 .f32 := hist (bin x y) (high x y n) (low x y n)

/-- The histogram of three planes. -/
def imageHist (a0 a1 a2 : Plane .f32) : FVec Ideal S9x32x32 .f32 :=
  histOf (bestX a0 a1 a2) (bestY a0 a1 a2) (bestN a0 a1 a2)

/-- What the kernel stores for one image. -/
def image (v : Vec Ideal S1x3x512x512 .f32) : FVec Ideal S1x36x31x31 .f32 :=
  blocks (imageHist (plane0 (planes v)) (plane1 (planes v)) (plane2 (planes v)))

/-- The formula of `right` is `right`. -/
theorem right_fold (a : Plane .f32) : (concatenate S512x512 1 [⟨S512x511, extractStridedSlice S512x511 ![0, 1] a slices_S512x512_o0_1_S512x511⟩,
    ⟨S512x1, extractStridedSlice S512x1 ![0, 510] a slices_S512x512_o0_510_S512x1⟩] concatenates_S512x511_S512x1_S512x512_d1 : Plane .f32) = HogImage.right a := Eq.trans rfl rfl

/-- The formula of `left` is `left`. -/
theorem left_fold (a : Plane .f32) : (concatenate S512x512 1 [⟨S512x1, extractStridedSlice S512x1 ![0, 1] a slices_S512x512_o0_1_S512x1⟩,
    ⟨S512x511, extractStridedSlice S512x511 ![0, 0] a slices_S512x512_o0_0_S512x511⟩] concatenates_S512x1_S512x511_S512x512_d1 : Plane .f32) = HogImage.left a := Eq.trans rfl rfl

/-- The formula of `up` is `up`. -/
theorem up_fold (a : Plane .f32) : (concatenate S512x512 0 [⟨S1x512, extractStridedSlice S1x512 ![1, 0] a slices_S512x512_o1_0_S1x512⟩,
    ⟨S511x512, extractStridedSlice S511x512 ![0, 0] a slices_S512x512_o0_0_S511x512⟩] concatenates_S1x512_S511x512_S512x512_d0 : Plane .f32) = HogImage.up a := Eq.trans rfl rfl

/-- The formula of `down` is `down`. -/
theorem down_fold (a : Plane .f32) : (concatenate S512x512 0 [⟨S511x512, extractStridedSlice S511x512 ![1, 0] a slices_S512x512_o1_0_S511x512⟩,
    ⟨S1x512, extractStridedSlice S1x512 ![510, 0] a slices_S512x512_o510_0_S1x512⟩] concatenates_S511x512_S1x512_S512x512_d0 : Plane .f32) = HogImage.down a := Eq.trans rfl rfl

/-- The formula of `diff` is `diff`. -/
theorem diff_fold (a : Plane .f32) : (subf (right a) (left a) : Plane .f32) = HogImage.diff a := Eq.trans rfl rfl

/-- The formula of `smooth` is `smooth`. -/
theorem smooth_fold (a : Plane .f32) : (addf (addf (right a) (left a)) (mulf (const 0x40000000#32) a) : Plane .f32) = HogImage.smooth a := Eq.trans rfl rfl

/-- The formula of `gradX` is `gradX`. -/
theorem gradX_fold (a : Plane .f32) : (addf (addf (up (diff a)) (down (diff a))) (mulf (const 0x40000000#32) (diff a)) : Plane .f32) = HogImage.gradX a := Eq.trans rfl rfl

/-- The formula of `gradY` is `gradY`. -/
theorem gradY_fold (a : Plane .f32) : (subf (down (smooth a)) (up (smooth a)) : Plane .f32) = HogImage.gradY a := Eq.trans rfl rfl

/-- The formula of `sq` is `sq`. -/
theorem sq_fold (x y : Plane .f32) : (addf (mulf x x) (mulf y y) : Plane .f32) = HogImage.sq x y := Eq.trans rfl rfl

/-- The formula of `planes` is `planes`. -/
theorem planes_fold (v : Vec Ideal S1x3x512x512 .f32) : (shapeCast S3x512x512 v shapeCasts_S1x3x512x512_S3x512x512 : FVec Ideal S3x512x512 .f32) = HogImage.planes v := Eq.trans rfl rfl

/-- The formula of `plane0` is `plane0`. -/
theorem plane0_fold (v : FVec Ideal S3x512x512 .f32) : (extf .f32 (truncf .bf16 (shapeCast S512x512 (extractStridedSlice S1x512x512 ![0, 0, 0] v slices_S3x512x512_o0_0_0_S1x512x512)
    shapeCasts_S1x512x512_S512x512) bitsLt_bf16_f32) bitsLt_bf16_f32 : Plane .f32) = HogImage.plane0 v := Eq.trans rfl rfl

/-- The formula of `plane1` is `plane1`. -/
theorem plane1_fold (v : FVec Ideal S3x512x512 .f32) : (extf .f32 (truncf .bf16 (shapeCast S512x512 (extractStridedSlice S1x512x512 ![1, 0, 0] v slices_S3x512x512_o1_0_0_S1x512x512)
    shapeCasts_S1x512x512_S512x512) bitsLt_bf16_f32) bitsLt_bf16_f32 : Plane .f32) = HogImage.plane1 v := Eq.trans rfl rfl

/-- The formula of `plane2` is `plane2`. -/
theorem plane2_fold (v : FVec Ideal S3x512x512 .f32) : (extf .f32 (truncf .bf16 (shapeCast S512x512 (extractStridedSlice S1x512x512 ![2, 0, 0] v slices_S3x512x512_o2_0_0_S1x512x512)
    shapeCasts_S1x512x512_S512x512) bitsLt_bf16_f32) bitsLt_bf16_f32 : Plane .f32) = HogImage.plane2 v := Eq.trans rfl rfl

/-- The formula of `first` is `first`. -/
theorem first_fold (n0 n1 n2 : Plane .f32) : (andi (cmpf .oge n0 n1) (cmpf .oge n0 n2) : IVec S512x512 1) = HogImage.first n0 n1 n2 := Eq.trans rfl rfl

/-- The formula of `second` is `second`. -/
theorem second_fold (n0 n1 n2 : Plane .f32) : (andi (xori (first n0 n1 n2) (constantI S512x512 1 1#1)) (cmpf .oge n1 n2) : IVec S512x512 1) = HogImage.second n0 n1 n2 := Eq.trans rfl rfl

/-- The formula of `pick` is `pick`. -/
theorem pick_fold (n0 n1 n2 x0 x1 x2 : Plane .f32) : (select (first n0 n1 n2) x0 (select (second n0 n1 n2) x1 x2) : Plane .f32) = HogImage.pick n0 n1 n2 x0 x1 x2 := Eq.trans rfl rfl

/-- The formula of `slope` is `slope`. -/
theorem slope_fold (x y : Plane .f32) : (divf (minimumf (absf x) (absf y))
    (select (cmpf .oeq (maximumf (absf x) (absf y)) (const 0x00000000#32)) (const 0x3F800000#32) (maximumf (absf x) (absf y))) : Plane .f32) = HogImage.slope x y := Eq.trans rfl rfl

/-- The formula of `poly` is `poly`. -/
theorem poly_fold (q : Plane .f32) : (mulf q (addf (coef "gain_a0" 0x4037526A#32) (mulf (mulf q q) (addf (coef "gain_a1" 0xBF723CAD#32) (mulf (mulf q q)
    (addf (coef "gain_a2" 0x3F041CE6#32) (mulf (mulf q q) (addf (coef "gain_a3" 0xBE79BDCC#32)
      (mulf (mulf q q) (coef "gain_a4" 0x3D747B94#32))))))))) : Plane .f32) = HogImage.poly q := Eq.trans rfl rfl

/-- The formula of `acute` is `acute`. -/
theorem acute_fold (x y : Plane .f32) : (select (cmpf .ogt (absf y) (absf x)) (subf (const 0x40900000#32) (poly (slope x y))) (poly (slope x y)) : Plane .f32) = HogImage.acute x y := Eq.trans rfl rfl

/-- The formula of `turned` is `turned`. -/
theorem turned_fold (x y : Plane .f32) : (select (cmpf .olt (mulf x y) (const 0x00000000#32)) (subf (const 0x41100000#32) (acute x y)) (acute x y) : Plane .f32) = HogImage.turned x y := Eq.trans rfl rfl

/-- The formula of `coord` is `coord`. -/
theorem coord_fold (x y : Plane .f32) : (select (cmpf .oge (turned x y) (const 0x41100000#32)) (const 0x00000000#32) (turned x y) : Plane .f32) = HogImage.coord x y := Eq.trans rfl rfl

/-- The formula of `bin` is `bin`. -/
theorem bin_fold (x y : Plane .f32) : (truncf .bf16 (floor (coord x y)) bitsLt_bf16_f32 : Plane .bf16) = HogImage.bin x y := Eq.trans rfl rfl

/-- The formula of `high` is `high`. -/
theorem high_fold (x y n : Plane .f32) : (truncf .bf16 (mulf (subf (coord x y) (floor (coord x y))) n) bitsLt_bf16_f32 : Plane .bf16) = HogImage.high x y n := Eq.trans rfl rfl

/-- The formula of `low` is `low`. -/
theorem low_fold (x y n : Plane .f32) : (subf (truncf .bf16 n bitsLt_bf16_f32) (high x y n) : Plane .bf16) = HogImage.low x y n := Eq.trans rfl rfl

/-- The formula of `none16` is `none16`. -/
theorem none16_fold : (broadcast S512x512 (Scalar.ofBits .bf16 0x0000#16 : Ideal .bf16) : Plane .bf16) = HogImage.none16 := Eq.trans rfl rfl

/-- The formula of `acrossR` is `acrossR`. -/
theorem acrossR_fold : (iota .tc S32x512 32 (List.cons (α := Fin 2) (1 : Fin S32x512.rank) (List.nil (α := Fin 2))) iota_S32x512_d1_w32 : IVec S32x512 32) = HogImage.acrossR := Eq.trans rfl rfl

/-- The formula of `downR` is `downR`. -/
theorem downR_fold : (iota .tc S32x512 32 (List.cons (α := Fin 2) (0 : Fin S32x512.rank) (List.nil (α := Fin 2))) iota_S32x512_d0_w32 : IVec S32x512 32) = HogImage.downR := Eq.trans rfl rfl

/-- The formula of `downC` is `downC`. -/
theorem downC_fold : (iota .tc S512x32 32 (List.cons (α := Fin 2) (0 : Fin S512x32.rank) (List.nil (α := Fin 2))) iota_S512x32_d0_w32 : IVec S512x32 32) = HogImage.downC := Eq.trans rfl rfl

/-- The formula of `acrossC` is `acrossC`. -/
theorem acrossC_fold : (iota .tc S512x32 32 (List.cons (α := Fin 2) (1 : Fin S512x32.rank) (List.nil (α := Fin 2))) iota_S512x32_d1_w32 : IVec S512x32 32) = HogImage.acrossC := Eq.trans rfl rfl

/-- The formula of `cellRows` is `cellRows`. -/
theorem cellRows_fold : (truncf .bf16 (sitofp .f32 (extui 32 (cmpi .eq (select (andi (cmpi .ne (subi (extui 32 (cmpi .sgt acrossR (broadcast S32x512 0#32)) natLt_1_32) (extui 32 (cmpi .slt acrossR (broadcast S32x512 0#32)) natLt_1_32)) (broadcast S32x512 (Scalar.subi (Scalar.extui (Scalar.cmpi .sgt 16#32 0#32)) (Scalar.extui (Scalar.cmpi .slt 16#32 0#32))))) (cmpi .ne (remsi acrossR (broadcast S32x512 16#32)) (broadcast S32x512 0#32))) (subi (divsi acrossR (broadcast S32x512 16#32)) (broadcast S32x512 1#32)) (divsi acrossR (broadcast S32x512 16#32))) downR) natLt_1_32)) bitsLt_bf16_f32 : FVec Ideal S32x512 .bf16) = HogImage.cellRows := Eq.trans rfl rfl

/-- The formula of `cellCols` is `cellCols`. -/
theorem cellCols_fold : (sitofp .f32 (extui 32 (cmpi .eq (select (andi (cmpi .ne (subi (extui 32 (cmpi .sgt downC (broadcast S512x32 0#32)) natLt_1_32) (extui 32 (cmpi .slt downC (broadcast S512x32 0#32)) natLt_1_32)) (broadcast S512x32 (Scalar.subi (Scalar.extui (Scalar.cmpi .sgt 16#32 0#32)) (Scalar.extui (Scalar.cmpi .slt 16#32 0#32))))) (cmpi .ne (remsi downC (broadcast S512x32 16#32)) (broadcast S512x32 0#32))) (subi (divsi downC (broadcast S512x32 16#32)) (broadcast S512x32 1#32)) (divsi downC (broadcast S512x32 16#32))) acrossC) natLt_1_32) : FVec Ideal S512x32 .f32) = HogImage.cellCols := Eq.trans rfl rfl

/-- The formula of `mask` is `mask`. -/
theorem mask_fold (w w' : BitVec 16) (b v1 v0 : Plane .bf16) : (addf (select (cmpf .oeq b (broadcast S512x512 (Scalar.ofBits .bf16 w : Ideal .bf16))) v0 none16)
    (select (cmpf .oeq b (broadcast S512x512 (Scalar.ofBits .bf16 w' : Ideal .bf16))) v1 none16) : Plane .bf16) = HogImage.mask w w' b v1 v0 := Eq.trans rfl rfl

/-- The formula of `mask` at the first bin. -/
theorem mask_fold₀ (w' : BitVec 16) (b v1 v0 : Plane .bf16) : (addf (select (cmpf .oeq b none16) v0 none16)
    (select (cmpf .oeq b (broadcast S512x512 (Scalar.ofBits .bf16 w' : Ideal .bf16))) v1 none16) : Plane .bf16) = HogImage.mask 0x0000#16 w' b v1 v0 := Eq.trans rfl rfl

/-- The formula of `mask` at the second bin. -/
theorem mask_fold₁ (w : BitVec 16) (b v1 v0 : Plane .bf16) : (addf (select (cmpf .oeq b (broadcast S512x512 (Scalar.ofBits .bf16 w : Ideal .bf16))) v0 none16)
    (select (cmpf .oeq b none16) v1 none16) : Plane .bf16) = HogImage.mask w 0x0000#16 b v1 v0 := Eq.trans rfl rfl

/-- The formula of `rowSum` is `rowSum`. -/
theorem rowSum_fold (m : Plane .bf16) : (matmul dot_S32x512_S512x512_S32x512_1_0_0_1_n_n none cellRows m (constant S32x512 .f32 0x00000000#32) : FVec Ideal S32x512 .f32) = HogImage.rowSum m := Eq.trans rfl rfl

/-- The formula of `stack9` is `stack9`. -/
theorem stack9_fold (r0 r1 r2 r3 r4 r5 r6 r7 r8 : FVec Ideal S32x512 .f32) : (concatenate S288x512 0 [⟨S32x512, r0⟩, ⟨S32x512, r1⟩, ⟨S32x512, r2⟩, ⟨S32x512, r3⟩, ⟨S32x512, r4⟩, ⟨S32x512, r5⟩,
    ⟨S32x512, r6⟩, ⟨S32x512, r7⟩, ⟨S32x512, r8⟩]
    concatenates_S32x512_S32x512_S32x512_S32x512_S32x512_S32x512_S32x512_S32x512_S32x512_S288x512_d0 : FVec Ideal S288x512 .f32) =
    HogImage.stack9 r0 r1 r2 r3 r4 r5 r6 r7 r8 := Eq.trans rfl rfl

/-- The formula of `stack4` is `stack4`. -/
theorem stack4_fold (c00 c01 c10 c11 : FVec Ideal S9x31x31 .f32) : (concatenate S9x4x31x31 1 [⟨S9x1x31x31, shapeCast S9x1x31x31 c00 shapeCasts_S9x31x31_S9x1x31x31⟩,
      ⟨S9x1x31x31, shapeCast S9x1x31x31 c01 shapeCasts_S9x31x31_S9x1x31x31⟩,
      ⟨S9x1x31x31, shapeCast S9x1x31x31 c10 shapeCasts_S9x31x31_S9x1x31x31⟩,
      ⟨S9x1x31x31, shapeCast S9x1x31x31 c11 shapeCasts_S9x31x31_S9x1x31x31⟩]
      concatenates_S9x1x31x31_S9x1x31x31_S9x1x31x31_S9x1x31x31_S9x4x31x31_d1 : FVec Ideal S9x4x31x31 .f32) =
    HogImage.stack4 c00 c01 c10 c11 := Eq.trans rfl rfl

/-- The formula of `rows` is `rows`. -/
theorem rows_fold (b v1 v0 : Plane .bf16) : (stack9 (rowSum (mask 0x0000#16 0x4100#16 b v1 v0)) (rowSum (mask 0x3F80#16 0x0000#16 b v1 v0))
    (rowSum (mask 0x4000#16 0x3F80#16 b v1 v0)) (rowSum (mask 0x4040#16 0x4000#16 b v1 v0))
    (rowSum (mask 0x4080#16 0x4040#16 b v1 v0)) (rowSum (mask 0x40A0#16 0x4080#16 b v1 v0))
    (rowSum (mask 0x40C0#16 0x40A0#16 b v1 v0)) (rowSum (mask 0x40E0#16 0x40C0#16 b v1 v0))
    (rowSum (mask 0x4100#16 0x40E0#16 b v1 v0)) : FVec Ideal S288x512 .f32) = HogImage.rows b v1 v0 := Eq.trans rfl rfl

/-- The formula of `hist` is `hist`. -/
theorem hist_fold (b v1 v0 : Plane .bf16) : (mulf (shapeCast S9x32x32 (matmul dot_S288x512_S512x32_S288x32_1_0_0_1_n_n (some .fp32) (rows b v1 v0) cellCols
    (constant S288x32 .f32 0x00000000#32)) shapeCasts_S288x32_S9x32x32) (broadcast S9x32x32 (Scalar.ofBits .f32 0x3B800000#32 : Ideal .f32)) : FVec Ideal S9x32x32 .f32) = HogImage.hist b v1 v0 := Eq.trans rfl rfl

/-- The formula of `invLen` is `invLen`. -/
theorem invLen_fold (s : FVec Ideal S31x31 .f32) : (divf (broadcast S31x31 (Scalar.ofBits .f32 0x3F800000#32 : Ideal .f32))
    (addf (sqrt s) (broadcast S31x31 (Scalar.ofBits .f32 0x2EDBE6FF#32 : Ideal .f32))) : FVec Ideal S31x31 .f32) = HogImage.invLen s := Eq.trans rfl rfl

/-- The formula of `cellSq` is `cellSq`. -/
theorem cellSq_fold (h : FVec Ideal S9x32x32 .f32) : (multiReduction .add (List.cons (α := Fin 3) (0 : Fin S9x32x32.rank) (List.nil (α := Fin 3))) S32x32 (mulf h h) 0x00000000#32 reduces_S9x32x32_S32x32 (.inl rfl) rfl : FVec Ideal S32x32 .f32) = HogImage.cellSq h := Eq.trans rfl rfl

/-- The formula of `blockSq` is `blockSq`. -/
theorem blockSq_fold (h : FVec Ideal S9x32x32 .f32) : (addf (addf (addf (extractStridedSlice S31x31 ![0, 0] (cellSq h) slices_S32x32_o0_0_S31x31)
    (extractStridedSlice S31x31 ![1, 0] (cellSq h) slices_S32x32_o1_0_S31x31))
    (extractStridedSlice S31x31 ![0, 1] (cellSq h) slices_S32x32_o0_1_S31x31))
    (extractStridedSlice S31x31 ![1, 1] (cellSq h) slices_S32x32_o1_1_S31x31) : FVec Ideal S31x31 .f32) = HogImage.blockSq h := Eq.trans rfl rfl

/-- The formula of `clip` is `clip`. -/
theorem clip_fold (x : FVec Ideal S9x31x31 .f32) (n : FVec Ideal S31x31 .f32) : (minimumf (mulf x (broadcastTo S9x31x31 (shapeCast S1x31x31 n shapeCasts_S31x31_S1x31x31) broadcasts_S1x31x31_S9x31x31))
    (broadcast S9x31x31 (Scalar.ofBits .f32 0x3E4CCCCD#32 : Ideal .f32)) : FVec Ideal S9x31x31 .f32) = HogImage.clip x n := Eq.trans rfl rfl

/-- The formula of `binSq` is `binSq`. -/
theorem binSq_fold (t : FVec Ideal S9x31x31 .f32) : (multiReduction .add (List.cons (α := Fin 3) (0 : Fin S9x31x31.rank) (List.nil (α := Fin 3))) S31x31 (mulf t t) 0x00000000#32 reduces_S9x31x31_S31x31 (.inl rfl) rfl : FVec Ideal S31x31 .f32) = HogImage.binSq t := Eq.trans rfl rfl

/-- The formula of `corner00` is `corner00`. -/
theorem corner00_fold (h : FVec Ideal S9x32x32 .f32) : (clip (extractStridedSlice S9x31x31 ![0, 0, 0] h slices_S9x32x32_o0_0_0_S9x31x31) (invLen (blockSq h)) : FVec Ideal S9x31x31 .f32) = HogImage.corner00 h := Eq.trans rfl rfl

/-- The formula of `corner01` is `corner01`. -/
theorem corner01_fold (h : FVec Ideal S9x32x32 .f32) : (clip (extractStridedSlice S9x31x31 ![0, 0, 1] h slices_S9x32x32_o0_0_1_S9x31x31) (invLen (blockSq h)) : FVec Ideal S9x31x31 .f32) = HogImage.corner01 h := Eq.trans rfl rfl

/-- The formula of `corner10` is `corner10`. -/
theorem corner10_fold (h : FVec Ideal S9x32x32 .f32) : (clip (extractStridedSlice S9x31x31 ![0, 1, 0] h slices_S9x32x32_o0_1_0_S9x31x31) (invLen (blockSq h)) : FVec Ideal S9x31x31 .f32) = HogImage.corner10 h := Eq.trans rfl rfl

/-- The formula of `corner11` is `corner11`. -/
theorem corner11_fold (h : FVec Ideal S9x32x32 .f32) : (clip (extractStridedSlice S9x31x31 ![0, 1, 1] h slices_S9x32x32_o0_1_1_S9x31x31) (invLen (blockSq h)) : FVec Ideal S9x31x31 .f32) = HogImage.corner11 h := Eq.trans rfl rfl

/-- The formula of `cutSq` is `cutSq`. -/
theorem cutSq_fold (h : FVec Ideal S9x32x32 .f32) : (addf (addf (addf (addf (broadcast S31x31 (Scalar.ofBits .f32 0x00000000#32 : Ideal .f32)) (binSq (corner00 h)))
    (binSq (corner01 h))) (binSq (corner10 h))) (binSq (corner11 h)) : FVec Ideal S31x31 .f32) = HogImage.cutSq h := Eq.trans rfl rfl

/-- The formula of `blocks` is `blocks`. -/
theorem blocks_fold (h : FVec Ideal S9x32x32 .f32) : (shapeCast S1x36x31x31 (shapeCast S36x31x31 (mulf
    (stack4 (corner00 h) (corner01 h) (corner10 h) (corner11 h))
    (broadcastTo S9x4x31x31 (shapeCast S1x1x31x31 (invLen (cutSq h)) shapeCasts_S31x31_S1x1x31x31) broadcasts_S1x1x31x31_S9x4x31x31))
    shapeCasts_S9x4x31x31_S36x31x31) shapeCasts_S36x31x31_S1x36x31x31 : FVec Ideal S1x36x31x31 .f32) = HogImage.blocks h := Eq.trans rfl rfl

end Cert.HogImage

end
-- ==== Proof.Angle.lean ====
/- The angle of a gradient over the real numbers: the arctangent by quadrants, taken modulo a half turn and counted in
   bins, is the kernel's coordinate, folded from the acute angle by the signs. -/
module

public import Mathlib.Analysis.SpecialFunctions.Trigonometric.Basic

@[expose] public section

noncomputable section

namespace Cert.HogSpec

/-- The arctangent's polynomial. -/
def arc (q : ℝ) : ℝ :=
  q * (499933 / 500000 + q * q * (-660599 / 2000000 + q * q * (180141 / 1000000 + q * q * (-85133 / 1000000 + q * q * (208351 / 10000000)))))

/-- The arctangent by quadrants, in (-π, π]. -/
def angle (x y : ℝ) : ℝ :=
  let s : Prop := |x| < |y|
  let den := if s then y else x
  let a := arc ((if s then x else y) / (if den = 0 then 1 else den))
  let half := if s then (if 0 < y then Real.pi / 2 else -(Real.pi / 2)) - a else a
  if s ∨ 0 ≤ x then half else if 0 ≤ y then half + Real.pi else half - Real.pi

/-- The acute angle with the horizontal, in bins. -/
def acuteR (x y : ℝ) : ℝ :=
  let p := 9 / Real.pi * arc (min |x| |y| / (if max |x| |y| = 0 then 1 else max |x| |y|))
  if |x| < |y| then 9 / 2 - p else p

/-- The angle modulo a half turn, in bins, from the acute angle and the signs. -/
def coordR (x y : ℝ) : ℝ :=
  let t := if x * y < 0 then 9 - acuteR x y else acuteR x y
  if 9 ≤ t then 0 else t

theorem arc_neg (q : ℝ) : arc (-q) = -arc q := by unfold arc; ring

theorem arc_zero : arc 0 = 0 := by unfold arc; ring

/-- The polynomial's factor beside its argument is positive and at most 1 on [0, 1]. -/
theorem arc_factor (s : ℝ) (h0 : 0 ≤ s) (h1 : s ≤ 1) :
    0 < 499933 / 500000 + s * (-660599 / 2000000 + s * (180141 / 1000000 + s * (-85133 / 1000000 + s * (208351 / 10000000))))
      ∧ 499933 / 500000 + s * (-660599 / 2000000 + s * (180141 / 1000000 + s * (-85133 / 1000000 + s * (208351 / 10000000)))) < 1 := by
  have step (c d l u : ℝ) (hd : l ≤ d ∧ d ≤ u) (hl : l ≤ 0) (hu : 0 ≤ u) : c + l ≤ c + s * d ∧ c + s * d ≤ c + u := by
    constructor <;> nlinarith
  have e4 := step (-85133 / 1000000) (208351 / 10000000) 0 (208351 / 10000000) (by norm_num) (by norm_num) (by norm_num)
  generalize -85133 / 1000000 + s * (208351 / 10000000) = d3 at *
  have e3 := step (180141 / 1000000) d3 (-85133 / 1000000) 0 ⟨by linarith [e4.1], by linarith [e4.2]⟩ (by norm_num) (by norm_num)
  generalize 180141 / 1000000 + s * d3 = d2 at *
  have e2 := step (-660599 / 2000000) d2 0 (180141 / 1000000) ⟨by linarith [e3.1], by linarith [e3.2]⟩ (by norm_num) (by norm_num)
  generalize -660599 / 2000000 + s * d2 = d1 at *
  have e1 := step (499933 / 500000) d1 (-660599 / 2000000) 0 ⟨by linarith [e2.1], by linarith [e2.2]⟩ (by norm_num) (by norm_num)
  constructor
  · linarith [e1.1]
  · linarith [e1.2]

/-- On [0, 1] the polynomial lies in [0, 1), and it is positive away from 0. -/
theorem arc_mem (q : ℝ) (h0 : 0 ≤ q) (h1 : q ≤ 1) : 0 ≤ arc q ∧ arc q < 1 ∧ (0 < q → 0 < arc q) := by
  have h := arc_factor (q * q) (mul_nonneg h0 h0) (by nlinarith)
  unfold arc
  exact ⟨mul_nonneg h0 h.1.le, by nlinarith [h.1, h.2], fun hq => mul_pos hq h.1⟩

/-- The gain takes a number of [0, 1] below 4.5. -/
theorem gain_lt (p : ℝ) (h1 : p < 1) (h0 : 0 ≤ p) : 0 ≤ 9 / Real.pi * p ∧ 9 / Real.pi * p < 9 / 2 := by
  have hp := Real.two_le_pi
  have hq := Real.pi_pos
  refine ⟨by positivity, ?_⟩
  rw [div_mul_eq_mul_div, div_lt_iff₀ (by linarith)]
  linarith

/-- The gain undone. -/
theorem pi_gain (p : ℝ) : Real.pi * (9 / Real.pi * p / 9) = p := by
  have hp := Real.pi_pos.ne'
  field_simp

/-- The ratio of the lesser length to the greater. -/
def ratio (x y : ℝ) : ℝ := min |x| |y| / (if max |x| |y| = 0 then 1 else max |x| |y|)

theorem ratio_mem (x y : ℝ) : 0 ≤ ratio x y ∧ ratio x y ≤ 1 ∧ (x ≠ 0 → y ≠ 0 → 0 < ratio x y) := by
  unfold ratio
  by_cases h : max |x| |y| = 0
  · rw [if_pos h]
    have hx : |x| = 0 := le_antisymm (h ▸ le_max_left _ _) (abs_nonneg x)
    have hy : |y| = 0 := le_antisymm (h ▸ le_max_right _ _) (abs_nonneg y)
    rw [hx, hy]
    exact ⟨by norm_num, by norm_num, fun hx' => absurd (abs_eq_zero.1 hx) hx'⟩
  · rw [if_neg h]
    have hm : 0 < max |x| |y| := lt_of_le_of_ne (le_max_of_le_left (abs_nonneg x)) (Ne.symm h)
    refine ⟨div_nonneg (le_min (abs_nonneg x) (abs_nonneg y)) hm.le, ?_, fun hx hy => ?_⟩
    · rw [div_le_one hm]; exact min_le_max
    · exact div_pos (lt_min (abs_pos.2 hx) (abs_pos.2 hy)) hm

/-- Where the vertical part is the greater, the quotient of the angle is the ratio with the sign of x * y. -/
theorem quot_steep (x y : ℝ) (h : |x| < |y|) : x / y = if x * y < 0 then -ratio x y else ratio x y := by
  have hy0 : y ≠ 0 := by rintro rfl; simp at h; exact absurd h (not_lt.2 (abs_nonneg x))
  unfold ratio
  rw [max_eq_right h.le, min_eq_left h.le, if_neg (abs_pos.2 hy0).ne', ← abs_div]
  split_ifs with hs
  · have : x / y < 0 := by
      rcases mul_neg_iff.1 hs with ⟨a, b⟩ | ⟨a, b⟩
      · exact div_neg_of_pos_of_neg a b
      · exact div_neg_of_neg_of_pos a b
    rw [abs_of_neg this, neg_neg]
  · rw [abs_of_nonneg]
    rcases mul_nonneg_iff.1 (not_lt.1 hs) with ⟨a, b⟩ | ⟨a, b⟩
    · exact div_nonneg a b
    · exact div_nonneg_of_nonpos a b

theorem ratio_comm (x y : ℝ) : ratio x y = ratio y x := by unfold ratio; rw [min_comm, max_comm]

/-- Where it is not, likewise. -/
theorem quot_flat (x y : ℝ) (h : ¬ |x| < |y|) : y / (if x = 0 then 1 else x) = if x * y < 0 then -ratio x y else ratio x y := by
  by_cases hx : x = 0
  · subst hx
    have hy : y = 0 := by simpa using h
    subst hy
    simp [ratio]
  · rw [if_neg hx]
    rcases lt_or_eq_of_le (not_lt.1 h) with h' | h'
    · rw [quot_steep y x h', mul_comm, ratio_comm]
    · unfold ratio
      rw [h', max_self, min_self, if_neg (abs_pos.2 hx).ne', div_self (abs_pos.2 hx).ne']
      rcases abs_eq_abs.1 h' with e | e
      · subst e
        rw [if_neg (not_lt.2 (mul_self_nonneg _)), div_self hx]
      · subst e
        have hx' : x ≠ 0 := hx
        rw [if_pos (by nlinarith [mul_self_pos.2 hx']), neg_div, div_self hx']

/-- The angle is the coordinate, as a share of a half turn, up to half turns; the coordinate lies in [0, 9). -/
theorem angle_eq (x y : ℝ) :
    (∃ n : ℤ, angle x y = Real.pi * (coordR x y / 9) + n * Real.pi) ∧ 0 ≤ coordR x y ∧ coordR x y < 9 := by
  obtain ⟨r0, r1, rp⟩ := ratio_mem x y
  obtain ⟨p0, p1, pp⟩ := arc_mem _ r0 r1
  obtain ⟨g0, g1⟩ := gain_lt _ p1 p0
  have gp := pi_gain (arc (ratio x y))
  have hpi := Real.pi_pos
  have hc : coordR x y = (let t := if x * y < 0 then 9 - acuteR x y else acuteR x y; if 9 ≤ t then 0 else t) := rfl
  have ha : acuteR x y = if |x| < |y| then 9 / 2 - 9 / Real.pi * arc (ratio x y) else 9 / Real.pi * arc (ratio x y) := rfl
  have hg : x * y < 0 → 0 < 9 / Real.pi * arc (ratio x y) := fun h =>
    mul_pos (by positivity) (pp (rp (by rintro rfl; simp at h) (by rintro rfl; simp at h)))
  by_cases hs : |x| < |y|
  · have hy0 : y ≠ 0 := by rintro rfl; simp at hs; exact absurd hs (not_lt.2 (abs_nonneg x))
    have hang : angle x y = (if 0 < y then Real.pi / 2 else -(Real.pi / 2)) - arc (x / y) := by
      unfold angle; simp only [hs, if_true, if_neg hy0, true_or]
    rw [if_pos hs] at ha
    rw [quot_steep x y hs] at hang
    generalize hG : 9 / Real.pi * arc (ratio x y) = G at *
    by_cases hn : x * y < 0
    · have hcc : coordR x y = 9 / 2 + G := by
        rw [hc, ha]; simp only [if_pos hn]; rw [if_neg (by linarith)]; ring
      rw [if_pos hn, arc_neg] at hang
      rw [hcc]
      refine ⟨?_, by linarith, by linarith⟩
      by_cases hy : 0 < y
      · exact ⟨0, by rw [hang, if_pos hy]; push_cast; linear_combination -gp⟩
      · exact ⟨-1, by rw [hang, if_neg hy]; push_cast; linear_combination -gp⟩
    · have hcc : coordR x y = 9 / 2 - G := by
        rw [hc, ha]; simp only [if_neg hn]; rw [if_neg (by linarith)]
      rw [if_neg hn] at hang
      rw [hcc]
      refine ⟨?_, by linarith, by linarith⟩
      by_cases hy : 0 < y
      · exact ⟨0, by rw [hang, if_pos hy]; push_cast; linear_combination gp⟩
      · exact ⟨-1, by rw [hang, if_neg hy]; push_cast; linear_combination gp⟩
  · have hang : angle x y = if 0 ≤ x then arc (y / (if x = 0 then 1 else x))
        else if 0 ≤ y then arc (y / (if x = 0 then 1 else x)) + Real.pi else arc (y / (if x = 0 then 1 else x)) - Real.pi := by
      unfold angle; simp only [hs, if_false, false_or]
    rw [if_neg hs] at ha
    rw [quot_flat x y hs] at hang
    generalize hG : 9 / Real.pi * arc (ratio x y) = G at *
    by_cases hn : x * y < 0
    · have hGp := hg hn
      have hcc : coordR x y = 9 - G := by
        rw [hc, ha]; simp only [if_pos hn]; rw [if_neg (by linarith)]
      rw [if_pos hn, arc_neg] at hang
      rw [hcc]
      refine ⟨?_, by linarith, by linarith⟩
      by_cases hx : 0 ≤ x
      · exact ⟨-1, by rw [hang, if_pos hx]; push_cast; linear_combination gp⟩
      · have hy : 0 ≤ y := by
          by_contra hy
          nlinarith [mul_pos_of_neg_of_neg (not_le.1 hx) (not_le.1 hy)]
        exact ⟨0, by rw [hang, if_neg hx, if_pos hy]; push_cast; linear_combination gp⟩
    · have hcc : coordR x y = G := by
        rw [hc, ha]; simp only [if_neg hn]; rw [if_neg (by linarith)]
      rw [if_neg hn] at hang
      rw [hcc]
      refine ⟨?_, by linarith, by linarith⟩
      by_cases hx : 0 ≤ x
      · exact ⟨0, by rw [hang, if_pos hx]; push_cast; linear_combination -gp⟩
      · by_cases hy : 0 ≤ y
        · exact ⟨1, by rw [hang, if_neg hx, if_pos hy]; push_cast; linear_combination -gp⟩
        · exact ⟨-1, by rw [hang, if_neg hx, if_neg hy]; push_cast; linear_combination -gp⟩

/-- The angle modulo a half turn, in bins, is the coordinate. -/
theorem phase_eq (x y : ℝ) :
    9 / Real.pi * (angle x y - Real.pi * (⌊angle x y / Real.pi⌋ : ℤ)) = coordR x y := by
  obtain ⟨⟨n, hn⟩, h0, h9⟩ := angle_eq x y
  have hpi := Real.pi_pos.ne'
  have e : angle x y / Real.pi = coordR x y / 9 + n := by rw [hn]; field_simp
  have f : ⌊angle x y / Real.pi⌋ = n := by
    rw [e, Int.floor_add_intCast, Int.floor_eq_zero_iff.2 ⟨by positivity, by linarith⟩, zero_add]
  rw [f, hn]; field_simp; ring

end Cert.HogSpec
-- ==== Proof.Words.lean ====
/- The constants' words and the operations on finite values, read as real numbers. -/
module

public import Idealize.ShloMosaic.PureOps.Ideal.Laws

@[expose] public section

noncomputable section

namespace Cert.HogWords

open Idealize.ShloMosaic

theorem f32_0 : Ideal.ofBits .f32 0x00000000#32 = ((0 : ℝ) : EReal) := by simp [Ideal.ofBits, Ideal.ieee]
theorem f32_1 : Ideal.ofBits .f32 0x3F800000#32 = ((1 : ℝ) : EReal) := by simp [Ideal.ofBits, Ideal.ieee, -EReal.coe_mul]; norm_num
theorem f32_m1 : Ideal.ofBits .f32 0xBF800000#32 = ((-1 : ℝ) : EReal) := by simp [Ideal.ofBits, Ideal.ieee, -EReal.coe_mul]; norm_num
theorem f32_2 : Ideal.ofBits .f32 0x40000000#32 = ((2 : ℝ) : EReal) := by simp [Ideal.ofBits, Ideal.ieee, -EReal.coe_mul]; norm_num
theorem f32_m2 : Ideal.ofBits .f32 0xC0000000#32 = ((-2 : ℝ) : EReal) := by simp [Ideal.ofBits, Ideal.ieee, -EReal.coe_mul]; norm_num
theorem f32_9 : Ideal.ofBits .f32 0x41100000#32 = ((9 : ℝ) : EReal) := by simp [Ideal.ofBits, Ideal.ieee, -EReal.coe_mul]; norm_num
theorem f32_half9 : Ideal.ofBits .f32 0x40900000#32 = ((9 / 2 : ℝ) : EReal) := by simp [Ideal.ofBits, Ideal.ieee, -EReal.coe_mul]; norm_num
theorem f32_256 : Ideal.ofBits .f32 0x43800000#32 = ((256 : ℝ) : EReal) := by simp [Ideal.ofBits, Ideal.ieee, -EReal.coe_mul]; norm_num
theorem f32_inv256 : Ideal.ofBits .f32 0x3B800000#32 = ((1 / 256 : ℝ) : EReal) := by simp [Ideal.ofBits, Ideal.ieee, -EReal.coe_mul]; norm_num

/-- The cut, as the real number its word denotes. -/
def cut : ℝ := 13421773 * (2 : ℝ) ^ (-26 : ℤ)
/-- The number added to a length, as the real number its word denotes. -/
def tiny : ℝ := 14411519 * (2 : ℝ) ^ (-57 : ℤ)
theorem f32_cut : Ideal.ofBits .f32 0x3E4CCCCD#32 = (cut : EReal) := by simp [Ideal.ofBits, Ideal.ieee, cut, -EReal.coe_mul]
theorem f32_tiny : Ideal.ofBits .f32 0x2EDBE6FF#32 = (tiny : EReal) := by simp [Ideal.ofBits, Ideal.ieee, tiny, -EReal.coe_mul]
theorem tiny_pos : 0 < tiny := by unfold tiny; positivity

theorem bf16_0 : Ideal.ofBits .bf16 0x0000#16 = ((0 : ℝ) : EReal) := by simp [Ideal.ofBits, Ideal.ieee]
theorem bf16_1 : Ideal.ofBits .bf16 0x3F80#16 = ((1 : ℝ) : EReal) := by simp [Ideal.ofBits, Ideal.ieee, -EReal.coe_mul]; norm_num
theorem bf16_2 : Ideal.ofBits .bf16 0x4000#16 = ((2 : ℝ) : EReal) := by simp [Ideal.ofBits, Ideal.ieee, -EReal.coe_mul]; norm_num
theorem bf16_3 : Ideal.ofBits .bf16 0x4040#16 = ((3 : ℝ) : EReal) := by simp [Ideal.ofBits, Ideal.ieee, -EReal.coe_mul]; norm_num
theorem bf16_4 : Ideal.ofBits .bf16 0x4080#16 = ((4 : ℝ) : EReal) := by simp [Ideal.ofBits, Ideal.ieee, -EReal.coe_mul]; norm_num
theorem bf16_5 : Ideal.ofBits .bf16 0x40A0#16 = ((5 : ℝ) : EReal) := by simp [Ideal.ofBits, Ideal.ieee, -EReal.coe_mul]; norm_num
theorem bf16_6 : Ideal.ofBits .bf16 0x40C0#16 = ((6 : ℝ) : EReal) := by simp [Ideal.ofBits, Ideal.ieee, -EReal.coe_mul]; norm_num
theorem bf16_7 : Ideal.ofBits .bf16 0x40E0#16 = ((7 : ℝ) : EReal) := by simp [Ideal.ofBits, Ideal.ieee, -EReal.coe_mul]; norm_num
theorem bf16_8 : Ideal.ofBits .bf16 0x4100#16 = ((8 : ℝ) : EReal) := by simp [Ideal.ofBits, Ideal.ieee, -EReal.coe_mul]; norm_num

theorem f32_p0 : Ideal.ofBits .f32 0x48F41BA0#32 = ((499933 : ℝ) : EReal) := by simp [Ideal.ofBits, Ideal.ieee, -EReal.coe_mul]; norm_num
theorem f32_q0 : Ideal.ofBits .f32 0x48F42400#32 = ((500000 : ℝ) : EReal) := by simp [Ideal.ofBits, Ideal.ieee, -EReal.coe_mul]; norm_num
theorem f32_p1 : Ideal.ofBits .f32 0xC9214770#32 = ((-660599 : ℝ) : EReal) := by simp [Ideal.ofBits, Ideal.ieee, -EReal.coe_mul]; norm_num
theorem f32_q1 : Ideal.ofBits .f32 0x49F42400#32 = ((2000000 : ℝ) : EReal) := by simp [Ideal.ofBits, Ideal.ieee, -EReal.coe_mul]; norm_num
theorem f32_p2 : Ideal.ofBits .f32 0x482FEB40#32 = ((180141 : ℝ) : EReal) := by simp [Ideal.ofBits, Ideal.ieee, -EReal.coe_mul]; norm_num
theorem f32_q2 : Ideal.ofBits .f32 0x49742400#32 = ((1000000 : ℝ) : EReal) := by simp [Ideal.ofBits, Ideal.ieee, -EReal.coe_mul]; norm_num
theorem f32_p3 : Ideal.ofBits .f32 0xC7A64680#32 = ((-85133 : ℝ) : EReal) := by simp [Ideal.ofBits, Ideal.ieee, -EReal.coe_mul]; norm_num
theorem f32_p4 : Ideal.ofBits .f32 0x484B77C0#32 = ((208351 : ℝ) : EReal) := by simp [Ideal.ofBits, Ideal.ieee, -EReal.coe_mul]; norm_num
theorem f32_q4 : Ideal.ofBits .f32 0x4B189680#32 = ((10000000 : ℝ) : EReal) := by simp [Ideal.ofBits, Ideal.ieee, -EReal.coe_mul]

/-- Division of reals, the divisor not zero. -/
theorem div_real (x y : ℝ) (h : y ≠ 0) : Ideal.div (x : EReal) (y : EReal) = ((x / y : ℝ) : EReal) := by
  rw [Ideal.div_coe h, ← EReal.coe_mul, mul_one_div]

/-- The square root of a real that is not negative. -/
theorem sqrt_real (x : ℝ) (h : 0 ≤ x) : Ideal.sqrt (x : EReal) = (Real.sqrt x : EReal) := by
  rw [Ideal.sqrt_coe, if_neg (not_lt.2 h)]

theorem max_real (x y : ℝ) : max (x : EReal) (y : EReal) = ((max x y : ℝ) : EReal) := (EReal.coe_strictMono.monotone.map_max).symm
theorem min_real (x y : ℝ) : min (x : EReal) (y : EReal) = ((min x y : ℝ) : EReal) := (EReal.coe_strictMono.monotone.map_min).symm
theorem abs_real (x : ℝ) : max (x : EReal) (-(x : EReal)) = ((|x| : ℝ) : EReal) := by
  rw [← EReal.coe_neg, max_real]; rfl

/-- A choice between reals by a bit. -/
theorem choice_real (c : Prop) [Decidable c] (x y : ℝ) :
    Scalar.select (BitVec.ofBool (decide c)) (x : EReal) (y : EReal) = ((if c then x else y : ℝ) : EReal) := by
  by_cases h : c <;> simp [h, Scalar.select]

theorem sum_real {ι : Type} [Fintype ι] (f : ι → ℝ) : (∑ i, ((f i : ℝ) : EReal)) = ((∑ i, f i : ℝ) : EReal) := by
  classical
  induction (Finset.univ : Finset ι) using Finset.induction_on with
  | empty => simp
  | insert a s ha ih => rw [Finset.sum_insert ha, Finset.sum_insert ha, EReal.coe_add, ih]

end Cert.HogWords
-- ==== Proof.Pixels.lean ====
/- The histogram of one image over the real numbers: gradients, the channel of the longest gradient, votes, cells, blocks. -/
module

public import proofs.«01_k».proof.Proof.Angle
public import proofs.«01_k».proof.Proof.Words

@[expose] public section

noncomputable section

namespace Cert.HogSpec

/-- One channel's pixels. -/
abbrev Chan := Fin 512 → Fin 512 → ℝ

/-- Row or column p of the image padded by one reflected pixel on each side, as a row or column of the image. -/
def mir (p : ℕ) : Fin 512 := ⟨if p = 0 then 1 else if 513 ≤ p then 510 else p - 1, by split_ifs <;> omega⟩

/-- The padded channel. -/
def pad (d : Chan) (p q : ℕ) : ℝ := d (mir p) (mir q)

/-- The horizontal gradient: the 3x3 correlation with (-1 0 1; -2 0 2; -1 0 1). -/
def gX (d : Chan) (h w : Fin 512) : ℝ :=
  -1 * pad d h w + 1 * pad d h (w.val + 2) + -2 * pad d (h.val + 1) w + 2 * pad d (h.val + 1) (w.val + 2) + -1 * pad d (h.val + 2) w
    + 1 * pad d (h.val + 2) (w.val + 2)

/-- The vertical gradient: the 3x3 correlation with (-1 -2 -1; 0 0 0; 1 2 1). -/
def gY (d : Chan) (h w : Fin 512) : ℝ :=
  -1 * pad d h w + -2 * pad d h (w.val + 1) + -1 * pad d h (w.val + 2) + 1 * pad d (h.val + 2) w + 2 * pad d (h.val + 2) (w.val + 1)
    + 1 * pad d (h.val + 2) (w.val + 2)

/-- The squared length of a channel's gradient. -/
def gS (d : Chan) (h w : Fin 512) : ℝ := gX d h w * gX d h w + gY d h w * gY d h w

/-- Of three numbers, the one whose key is the greatest, the first of equals. -/
def pickR (s0 s1 s2 x0 x1 x2 : ℝ) : ℝ := if s1 ≤ s0 ∧ s2 ≤ s0 then x0 else if s2 ≤ s1 then x1 else x2

/-- The longest of a pixel's three gradients: its horizontal part, its vertical part, its length. -/
def bestXR (d : Fin 3 → Chan) (h w : Fin 512) : ℝ :=
  pickR (gS (d 0) h w) (gS (d 1) h w) (gS (d 2) h w) (gX (d 0) h w) (gX (d 1) h w) (gX (d 2) h w)
@[inherit_doc bestXR] def bestYR (d : Fin 3 → Chan) (h w : Fin 512) : ℝ :=
  pickR (gS (d 0) h w) (gS (d 1) h w) (gS (d 2) h w) (gY (d 0) h w) (gY (d 1) h w) (gY (d 2) h w)
@[inherit_doc bestXR] def bestNR (d : Fin 3 → Chan) (h w : Fin 512) : ℝ :=
  Real.sqrt (pickR (gS (d 0) h w) (gS (d 1) h w) (gS (d 2) h w) (gS (d 0) h w) (gS (d 1) h w) (gS (d 2) h w))

/-- What a gradient of length n at coordinate c gives to bin k. -/
def voteR (c n : ℝ) (k : Fin 9) : ℝ :=
  (if ⌊c⌋ % 9 = (k.val : ℤ) then (1 - (c - ⌊c⌋)) * n else 0) + (if (⌊c⌋ + 1) % 9 = (k.val : ℤ) then (c - ⌊c⌋) * n else 0)

/-- What a pixel gives to bin k. -/
def pixelR (d : Fin 3 → Chan) (k : Fin 9) (h w : Fin 512) : ℝ :=
  voteR (coordR (bestXR d h w) (bestYR d h w)) (bestNR d h w) k

/-- Row or column r of cell i. -/
def inCell (i : Fin 32) (r : Fin 16) : Fin 512 := ⟨i.val * 16 + r.val, by omega⟩

/-- The histogram of a cell, given what every pixel gives. -/
def cellR (v : Fin 9 → Fin 512 → Fin 512 → ℝ) (k : Fin 9) (i j : Fin 32) : ℝ :=
  (∑ c : Fin 16, ∑ r : Fin 16, v k (inCell i r) (inCell j c)) / 256

/-- Cell u (0 or 1) of block y. -/
def inBlock (y : Fin 31) (u : Fin 2) : Fin 32 := ⟨y.val + u.val, by omega⟩

/-- The squared length of a block. -/
def lenSq (x : Fin 2 → Fin 2 → Fin 9 → ℝ) : ℝ := ∑ u : Fin 2, ∑ v : Fin 2, ∑ k : Fin 9, x u v k * x u v k

/-- A block. -/
def blockOf (H : Fin 9 → Fin 32 → Fin 32 → ℝ) (y x : Fin 31) (u v : Fin 2) (k : Fin 9) : ℝ := H k (inBlock y u) (inBlock x v)

/-- A block brought to length 1. -/
def unitR (x : Fin 2 → Fin 2 → Fin 9 → ℝ) (u v : Fin 2) (k : Fin 9) : ℝ := x u v k / (Real.sqrt (lenSq x) + HogWords.tiny)

/-- A block cut at 0.2. -/
def cutR (x : Fin 2 → Fin 2 → Fin 9 → ℝ) (u v : Fin 2) (k : Fin 9) : ℝ := min (x u v k) HogWords.cut

/-- The normalised block of an image. -/
def hogR (d : Fin 3 → Chan) (y x : Fin 31) : Fin 2 → Fin 2 → Fin 9 → ℝ := unitR (cutR (unitR (blockOf (cellR (pixelR d)) y x)))

theorem lenSq_nonneg (x : Fin 2 → Fin 2 → Fin 9 → ℝ) : 0 ≤ lenSq x :=
  Finset.sum_nonneg fun _ _ => Finset.sum_nonneg fun _ _ => Finset.sum_nonneg fun _ _ => mul_self_nonneg _

theorem len_pos (x : Fin 2 → Fin 2 → Fin 9 → ℝ) : 0 < Real.sqrt (lenSq x) + HogWords.tiny :=
  add_pos_of_nonneg_of_pos (Real.sqrt_nonneg _) HogWords.tiny_pos

theorem gS_nonneg (d : Chan) (h w : Fin 512) : 0 ≤ gS d h w := add_nonneg (mul_self_nonneg _) (mul_self_nonneg _)

/-- The chosen key is not negative where the keys are not. -/
theorem pickR_nonneg (s0 s1 s2 : ℝ) (h0 : 0 ≤ s0) (h1 : 0 ≤ s1) (h2 : 0 ≤ s2) : 0 ≤ pickR s0 s1 s2 s0 s1 s2 := by
  unfold pickR; split_ifs <;> assumption

/-- The greatest of three square roots is the root of the chosen key. -/
theorem max_sqrt (s0 s1 s2 : ℝ) :
    max (max (Real.sqrt s0) (Real.sqrt s1)) (Real.sqrt s2) = Real.sqrt (pickR s0 s1 s2 s0 s1 s2) := by
  have m : Monotone Real.sqrt := fun _ _ h => Real.sqrt_le_sqrt h
  rw [← m.map_max, ← m.map_max]
  congr 1
  unfold pickR
  split_ifs with h h'
  · rw [max_eq_left h.1, max_eq_left h.2]
  · have : s0 ≤ s1 := by
      by_contra hh
      exact h ⟨(not_le.1 hh).le, h'.trans (not_le.1 hh).le⟩
    rw [max_eq_right this, max_eq_left h']
  · have h2 := (not_le.1 h').le
    have : s0 ≤ s2 := by
      by_contra hh
      exact h ⟨h2.trans (not_le.1 hh).le, (not_le.1 hh).le⟩
    exact max_eq_right (max_le this h2)

/-- Choosing the first whose root is the greatest root is choosing by the keys. -/
theorem pick_sqrt (s0 s1 s2 x0 x1 x2 : ℝ) (h0 : 0 ≤ s0) (h1 : 0 ≤ s1) (h2 : 0 ≤ s2) :
    (if Real.sqrt s0 = max (max (Real.sqrt s0) (Real.sqrt s1)) (Real.sqrt s2) then x0
      else if Real.sqrt s1 = max (max (Real.sqrt s0) (Real.sqrt s1)) (Real.sqrt s2) then x1 else x2)
      = pickR s0 s1 s2 x0 x1 x2 := by
  have e0 : Real.sqrt s0 = max (max (Real.sqrt s0) (Real.sqrt s1)) (Real.sqrt s2) ↔ s1 ≤ s0 ∧ s2 ≤ s0 := by
    rw [eq_comm, max_assoc, max_eq_left_iff, max_le_iff, Real.sqrt_le_sqrt_iff h0, Real.sqrt_le_sqrt_iff h0]
  have e1 : Real.sqrt s1 = max (max (Real.sqrt s0) (Real.sqrt s1)) (Real.sqrt s2) ↔ s0 ≤ s1 ∧ s2 ≤ s1 := by
    rw [eq_comm, max_comm (Real.sqrt s0), max_assoc, max_eq_left_iff, max_le_iff, Real.sqrt_le_sqrt_iff h1,
      Real.sqrt_le_sqrt_iff h1]
  unfold pickR
  by_cases c0 : s1 ≤ s0 ∧ s2 ≤ s0
  · rw [if_pos (e0.2 c0), if_pos c0]
  · rw [if_neg (mt e0.1 c0), if_neg c0]
    by_cases c1 : s2 ≤ s1
    · have : s0 ≤ s1 := by
        by_contra hh
        exact c0 ⟨(not_le.1 hh).le, c1.trans (not_le.1 hh).le⟩
      rw [if_pos (e1.2 ⟨this, c1⟩), if_pos c1]
    · rw [if_neg (fun h => c1 (e1.1 h).2), if_neg c1]

/-- The vote for bin k as the kernel counts it, its floor compared with the bin's number and the number of the bin before. -/
theorem vote_eq (c n : ℝ) (h0 : 0 ≤ c) (h9 : c < 9) (k : Fin 9) (b b' : ℝ) (hb : b = (k.val : ℝ))
    (hb' : b' = (((k.val + 8) % 9 : ℕ) : ℝ)) :
    (if ((⌊c⌋ : ℤ) : ℝ) = b then n - (c - ⌊c⌋) * n else 0) + (if ((⌊c⌋ : ℤ) : ℝ) = b' then (c - ⌊c⌋) * n else 0) = voteR c n k := by
  subst hb hb'
  have f0 : 0 ≤ ⌊c⌋ := Int.floor_nonneg.2 h0
  have f9 : ⌊c⌋ < 9 := Int.floor_lt.2 (by exact_mod_cast h9)
  have e : (((⌊c⌋ : ℤ) : ℝ) = (k.val : ℝ)) ↔ ⌊c⌋ % 9 = (k.val : ℤ) := by
    rw [Int.emod_eq_of_lt f0 f9]; exact_mod_cast Iff.rfl
  have e' : (((⌊c⌋ : ℤ) : ℝ) = (((k.val + 8) % 9 : ℕ) : ℝ)) ↔ (⌊c⌋ + 1) % 9 = (k.val : ℤ) := by
    have := k.isLt
    rw [← Int.cast_natCast, Int.cast_inj]
    push_cast
    omega
  unfold voteR
  simp only [e, e']
  congr 1
  split_ifs
  · ring
  · rfl

end Cert.HogSpec
-- ==== Proof.Infinite.lean ====
/- Images that hold infinities: where a gradient is finite, and what an infinite entry does to a vote, a cell and a block. -/
module

public import proofs.«01_k».proof.Proof.Pixels

@[expose] public section

noncomputable section

namespace Cert.HogSpec

open Idealize.ShloMosaic Cert.HogWords

/-! ## Infinite numbers -/

/-- The number is an infinity. -/
def Inf (x : EReal) : Prop := x = ⊤ ∨ x = ⊥

theorem not_inf_coe (r : ℝ) : ¬ Inf (r : EReal) := by rintro (h | h) <;> simp at h

theorem real_of_not_inf {x : EReal} (h : ¬ Inf x) : x = ((x.toReal : ℝ) : EReal) :=
  (EReal.coe_toReal (fun e => h (Or.inl e)) (fun e => h (Or.inr e))).symm

theorem inf_add {x y : EReal} : Inf (x + y) ↔ Inf x ∨ Inf y := by
  unfold Inf
  induction x <;> induction y <;> simp [← EReal.coe_add]

theorem inf_neg {x : EReal} : Inf (-x) ↔ Inf x := by
  unfold Inf
  induction x <;> simp [← EReal.coe_neg]

theorem inf_sub {x y : EReal} : Inf (x - y) ↔ Inf x ∨ Inf y := by
  rw [sub_eq_add_neg, inf_add, inf_neg]

theorem inf_mul {x : EReal} {c : ℝ} (hc : c ≠ 0) : Inf ((c : EReal) * x) ↔ Inf x := by
  unfold Inf
  induction x with
  | bot => rcases lt_or_gt_of_ne hc with h | h
           · simp [EReal.coe_mul_bot_of_neg h]
           · simp [EReal.coe_mul_bot_of_pos h]
  | coe x => simp [← EReal.coe_mul]
  | top => rcases lt_or_gt_of_ne hc with h | h
           · simp [EReal.coe_mul_top_of_neg h]
           · simp [EReal.coe_mul_top_of_pos h]

theorem mul_self_inf {x : EReal} (h : Inf x) : x * x = ⊤ := by
  rcases h with rfl | rfl
  · exact EReal.top_mul_top
  · exact EReal.bot_mul_bot

theorem mul_self_pos' (x : EReal) : 0 ≤ x * x := by
  by_cases h : Inf x
  · rw [mul_self_inf h]; exact le_top
  · rw [real_of_not_inf h, ← EReal.coe_mul]; exact EReal.coe_nonneg.2 (mul_self_nonneg _)

theorem top_add {x : EReal} (h : 0 ≤ x) : ⊤ + x = ⊤ :=
  EReal.top_add_of_ne_bot (fun e => absurd (e ▸ h) (by simp))

theorem add_top {x : EReal} (h : 0 ≤ x) : x + ⊤ = ⊤ := by rw [add_comm]; exact top_add h

/-- A sum of two squares, one of them infinite. -/
theorem squares_inf {x y : EReal} (h : Inf x ∨ Inf y) : x * x + y * y = ⊤ := by
  rcases h with h | h
  · rw [mul_self_inf h, top_add (mul_self_pos' y)]
  · rw [mul_self_inf h, add_top (mul_self_pos' x)]

/-- A sum is infinite just where a term is. -/
theorem inf_sum {ι : Type} [Fintype ι] (f : ι → EReal) : Inf (∑ i, f i) ↔ ∃ i, Inf (f i) := by
  classical
  have : ∀ s : Finset ι, Inf (∑ i ∈ s, f i) ↔ ∃ i ∈ s, Inf (f i) := by
    intro s
    induction s using Finset.induction_on with
    | empty => simpa using not_inf_coe 0
    | insert a s ha ih => rw [Finset.sum_insert ha, inf_add, ih]; simp
  simpa using this Finset.univ

/-- A sum of squares, one of them infinite. -/
theorem sum_squares_inf {ι : Type} [Fintype ι] (f : ι → EReal) (h : ∃ i, Inf (f i)) : ∑ i, f i * f i = ⊤ := by
  obtain ⟨i, hi⟩ := h
  refine top_le_iff.1 ((mul_self_inf hi).symm.le.trans ?_)
  exact Finset.single_le_sum (f := fun i => f i * f i) (fun i _ => mul_self_pos' (f i)) (Finset.mem_univ i)

/-! ## Finite gradients -/

/-- One channel's pixels, infinities among them. -/
abbrev EChan := Fin 512 → Fin 512 → EReal

/-- The pixels as reals, an infinity as zero. -/
def re (e : EChan) : Chan := fun h w => (e h w).toReal

/-- The padded channel. -/
def epad (e : EChan) (p q : ℕ) : EReal := e (mir p) (mir q)

theorem epad_real {e : EChan} {p q : ℕ} (h : ¬ Inf (epad e p q)) : epad e p q = ((pad (re e) p q : ℝ) : EReal) := real_of_not_inf h

/-- A pixel that counts in the horizontal gradient is infinite. -/
def BadX (e : EChan) (h w : Fin 512) : Prop :=
  Inf (epad e h w) ∨ Inf (epad e h (w.val + 2)) ∨ Inf (epad e (h.val + 1) w) ∨ Inf (epad e (h.val + 1) (w.val + 2))
    ∨ Inf (epad e (h.val + 2) w) ∨ Inf (epad e (h.val + 2) (w.val + 2))

/-- A pixel that counts in the vertical gradient is infinite. -/
def BadY (e : EChan) (h w : Fin 512) : Prop :=
  Inf (epad e h w) ∨ Inf (epad e h (w.val + 1)) ∨ Inf (epad e h (w.val + 2)) ∨ Inf (epad e (h.val + 2) w)
    ∨ Inf (epad e (h.val + 2) (w.val + 1)) ∨ Inf (epad e (h.val + 2) (w.val + 2))

/-- All pixels that count in a channel's gradient are finite. -/
def Fine (e : EChan) (h w : Fin 512) : Prop := ¬ BadX e h w ∧ ¬ BadY e h w

/-- The same of all channels. -/
def FineAt (E : Fin 3 → EChan) (h w : Fin 512) : Prop := ∀ c, Fine (E c) h w

/-- The same of all pixels of a cell. -/
def FineCell (E : Fin 3 → EChan) (i j : Fin 32) : Prop := ∀ r c : Fin 16, FineAt E (inCell i r) (inCell j c)

/-- The same of all cells of a block. -/
def FineBlock (E : Fin 3 → EChan) (y x : Fin 31) : Prop := ∀ u v : Fin 2, FineCell E (inBlock y u) (inBlock x v)

/-- The real image. -/
abbrev reals (E : Fin 3 → EChan) : Fin 3 → Chan := fun c => re (E c)

open Classical in
/-- The block cut at 0.2: zero where a gradient of the block is infinite. -/
def cutE (E : Fin 3 → EChan) (y x : Fin 31) : Fin 2 → Fin 2 → Fin 9 → ℝ :=
  if FineBlock E y x then cutR (unitR (blockOf (cellR (pixelR (reals E))) y x)) else fun _ _ _ => 0

/-- The normalised block of an image. -/
def hogE (E : Fin 3 → EChan) (y x : Fin 31) : Fin 2 → Fin 2 → Fin 9 → ℝ := unitR (cutE E y x)

/-! ## Votes, cells and blocks -/

/-- What the pixels give to the bins: the real votes where the gradient is finite, an infinity to some bin where it is not. -/
def VotesOf (E : Fin 3 → EChan) (V : Fin 9 → EChan) : Prop :=
  ∀ h w, (FineAt E h w → ∀ k, V k h w = ((pixelR (reals E) k h w : ℝ) : EReal)) ∧ (¬ FineAt E h w → ∃ k, Inf (V k h w))

/-- The cells' histograms: real where all gradients are finite, infinite in some bin where they are not. -/
def CellsOf (E : Fin 3 → EChan) (H : Fin 9 → Fin 32 → Fin 32 → EReal) : Prop :=
  ∀ i j, (FineCell E i j → ∀ k, H k i j = ((cellR (pixelR (reals E)) k i j : ℝ) : EReal)) ∧ (¬ FineCell E i j → ∃ k, Inf (H k i j))

/-- A block of cells: real where all gradients are finite, infinite somewhere where they are not. -/
def BlockOf (E : Fin 3 → EChan) (y x : Fin 31) (B : Fin 2 → Fin 2 → Fin 9 → EReal) : Prop :=
  (FineBlock E y x ∧ ∀ u v k, B u v k = ((blockOf (cellR (pixelR (reals E))) y x u v k : ℝ) : EReal))
    ∨ (¬ FineBlock E y x ∧ ∃ u v k, Inf (B u v k))

/-- Adding the votes over the cells. -/
theorem cells_of_votes {E : Fin 3 → EChan} {V : Fin 9 → EChan} {H : Fin 9 → Fin 32 → Fin 32 → EReal} (hV : VotesOf E V)
    (hH : ∀ k i j, H k i j = (∑ c : Fin 16, ∑ r : Fin 16, V k (inCell i r) (inCell j c)) * ((1 / 256 : ℝ) : EReal)) : CellsOf E H := by
  intro i j
  constructor
  · intro hf k
    rw [hH]
    simp only [fun c r => (hV (inCell i r) (inCell j c)).1 (hf r c) k]
    rw [Finset.sum_congr rfl fun c _ => sum_real (fun r : Fin 16 => pixelR (reals E) k (inCell i r) (inCell j c)), sum_real, ← EReal.coe_mul, mul_one_div]
    rfl
  · intro hf
    unfold FineCell at hf
    push Not at hf
    obtain ⟨r, c, hrc⟩ := hf
    obtain ⟨k, hk⟩ := (hV _ _).2 hrc
    refine ⟨k, ?_⟩
    rw [hH, mul_comm, inf_mul (by norm_num), inf_sum]
    exact ⟨c, (inf_sum _).2 ⟨r, hk⟩⟩

/-- The cells of a block. -/
theorem block_of_cells {E : Fin 3 → EChan} {H : Fin 9 → Fin 32 → Fin 32 → EReal} (hH : CellsOf E H) (y x : Fin 31) :
    BlockOf E y x (fun u v k => H k (inBlock y u) (inBlock x v)) := by
  by_cases hf : FineBlock E y x
  · exact Or.inl ⟨hf, fun u v k => (hH _ _).1 (hf u v) k⟩
  · refine Or.inr ⟨hf, ?_⟩
    unfold FineBlock at hf
    push Not at hf
    obtain ⟨u, v, huv⟩ := hf
    exact ⟨u, v, (hH _ _).2 huv⟩

/-- A block of cells divided by its length and cut, where all is finite. -/
theorem cutE_fine {E : Fin 3 → EChan} {y x : Fin 31} (hf : FineBlock E y x) :
    cutE E y x = cutR (unitR (blockOf (cellR (pixelR (reals E))) y x)) := if_pos hf
/-- The same where it is not. -/
theorem cutE_not {E : Fin 3 → EChan} {y x : Fin 31} (hf : ¬ FineBlock E y x) : cutE E y x = fun _ _ _ => 0 := if_neg hf

theorem cut_pos : 0 < cut := by unfold cut; positivity

/-- A length that is infinite divides to zero. -/
theorem div_top (x : EReal) : Ideal.div x (⊤ : EReal) = 0 := by
  unfold Ideal.div
  rw [if_neg (by simp), EReal.inv_top, mul_zero]

theorem sqrt_top_tiny : Ideal.sqrt (⊤ : EReal) + (tiny : EReal) = ⊤ := by
  show (⊤ : EReal) + _ = ⊤
  exact top_add (EReal.coe_nonneg.2 tiny_pos.le)

/-- The squared length of a block. -/
def lenE (B : Fin 2 → Fin 2 → Fin 9 → EReal) : EReal := ∑ u : Fin 2, ∑ v : Fin 2, ∑ k : Fin 9, B u v k * B u v k

theorem lenE_real {B : Fin 2 → Fin 2 → Fin 9 → EReal} {R : Fin 2 → Fin 2 → Fin 9 → ℝ} (h : ∀ u v k, B u v k = ((R u v k : ℝ) : EReal)) :
    lenE B = ((lenSq R : ℝ) : EReal) := by
  unfold lenE lenSq
  simp only [h, ← EReal.coe_mul, sum_real]

theorem lenE_inf {B : Fin 2 → Fin 2 → Fin 9 → EReal} (h : ∃ u v k, Inf (B u v k)) : lenE B = ⊤ := by
  obtain ⟨u, v, k, hk⟩ := h
  have n3 : ∀ u v, 0 ≤ ∑ k : Fin 9, B u v k * B u v k := fun u v => Finset.sum_nonneg fun k _ => mul_self_pos' _
  have n2 : ∀ u, 0 ≤ ∑ v : Fin 2, ∑ k : Fin 9, B u v k * B u v k := fun u => Finset.sum_nonneg fun v _ => n3 u v
  refine top_le_iff.1 ?_
  have e := sum_squares_inf (B u v) ⟨k, hk⟩
  calc (⊤ : EReal) ≤ ∑ k : Fin 9, B u v k * B u v k := e.symm.le
    _ ≤ ∑ v : Fin 2, ∑ k : Fin 9, B u v k * B u v k :=
      Finset.single_le_sum (f := fun v => ∑ k : Fin 9, B u v k * B u v k) (fun v _ => n3 u v) (Finset.mem_univ v)
    _ ≤ lenE B := Finset.single_le_sum (f := fun u => ∑ v : Fin 2, ∑ k : Fin 9, B u v k * B u v k) (fun u _ => n2 u) (Finset.mem_univ u)

/-- A block times the reciprocal of its length, cut. -/
theorem clip_mul {E : Fin 3 → EChan} {y x : Fin 31} {B : Fin 2 → Fin 2 → Fin 9 → EReal} (hB : BlockOf E y x B) (u v : Fin 2) (k : Fin 9) :
    min (B u v k * Ideal.div ((1 : ℝ) : EReal) (Ideal.sqrt (lenE B) + ((tiny : ℝ) : EReal))) ((HogWords.cut : ℝ) : EReal)
      = ((cutE E y x u v k : ℝ) : EReal) := by
  rcases hB with ⟨hf, hB⟩ | ⟨hf, hB⟩
  · rw [cutE_fine hf, lenE_real hB, hB, sqrt_real _ (lenSq_nonneg _), ← EReal.coe_add, div_real _ _ (len_pos _).ne', ← EReal.coe_mul, min_real, mul_one_div]
    rfl
  · rw [cutE_not hf, lenE_inf hB, sqrt_top_tiny, div_top, mul_zero, EReal.coe_zero]
    exact min_eq_left (EReal.coe_nonneg.2 cut_pos.le)

/-- A block divided by its length, cut. -/
theorem clip_div {E : Fin 3 → EChan} {y x : Fin 31} {B : Fin 2 → Fin 2 → Fin 9 → EReal} (hB : BlockOf E y x B) (u v : Fin 2) (k : Fin 9) :
    min (Ideal.div (B u v k) (Ideal.sqrt (lenE B) + ((tiny : ℝ) : EReal))) ((HogWords.cut : ℝ) : EReal) = ((cutE E y x u v k : ℝ) : EReal) := by
  rcases hB with ⟨hf, hB⟩ | ⟨hf, hB⟩
  · rw [cutE_fine hf, lenE_real hB, hB, sqrt_real _ (lenSq_nonneg _), ← EReal.coe_add, div_real _ _ (len_pos _).ne', min_real]
    rfl
  · rw [cutE_not hf, lenE_inf hB, sqrt_top_tiny, div_top, EReal.coe_zero]
    exact min_eq_left (EReal.coe_nonneg.2 cut_pos.le)

/-- What a length n, perhaps infinite, at coordinate c gives to bin k, as the kernel counts it. -/
def voteE (c : ℝ) (n : EReal) (k : Fin 9) : EReal :=
  (if ((⌊c⌋ : ℤ) : ℝ) = (k.val : ℝ) then n - ((c - ⌊c⌋ : ℝ) : EReal) * n else 0)
    + (if ((⌊c⌋ : ℤ) : ℝ) = (((k.val + 8) % 9 : ℕ) : ℝ) then ((c - ⌊c⌋ : ℝ) : EReal) * n else 0)

theorem voteE_real (c n : ℝ) (h0 : 0 ≤ c) (h9 : c < 9) (k : Fin 9) : voteE c (n : EReal) k = ((voteR c n k : ℝ) : EReal) := by
  rw [← vote_eq c n h0 h9 k _ _ rfl rfl, EReal.coe_add]
  unfold voteE
  congr 1 <;> split_ifs <;> simp [← EReal.coe_mul, ← EReal.coe_sub]

theorem voteE_top (c : ℝ) (h0 : 0 ≤ c) (h9 : c < 9) : ∃ k, Inf (voteE c ⊤ k) := by
  have f0 : 0 ≤ ⌊c⌋ := Int.floor_nonneg.2 h0
  have f9 : ⌊c⌋ < 9 := Int.floor_lt.2 (by exact_mod_cast h9)
  refine ⟨⟨⌊c⌋.toNat, by omega⟩, ?_⟩
  unfold voteE
  rw [inf_add]
  left
  rw [if_pos (by
    show ((⌊c⌋ : ℤ) : ℝ) = ((⌊c⌋.toNat : ℕ) : ℝ)
    rw [← Int.cast_natCast (R := ℝ), Int.toNat_of_nonneg f0]), inf_sub]
  exact Or.inl (Or.inl rfl)

end Cert.HogSpec
-- ==== Proof.Planes.lean ====
/- The kernel's planes read entry by entry as real numbers: the gradients, the chosen channel, the coordinate and the votes. -/
module

public import proofs.«01_k».proof.Proof.Image
public import proofs.«01_k».proof.Proof.Infinite
public import Idealize.ShloMosaic.Lib.ValueIdx
public import Idealize.ShloMosaic.Lib.Pipeline.Value

@[expose] public section

noncomputable section

namespace Cert.HogPlanes

open Idealize.ShloMosaic Idealize.ShloMosaic.ValueIdx Cert.KernelIdeal Cert.KernelIdeal.Gen Cert.HogImage Cert.HogSpec Cert.HogWords

/-- The plane holds these numbers. -/
abbrev Holds (a : Plane .f32) (e : EChan) : Prop := ∀ h w, a (ix2 h w) = e h w

theorem mir_low : (mir 0).val = 1 := rfl
theorem mir_mid (p : ℕ) (h0 : 0 < p) (h : p < 513) : (mir p).val = p - 1 := by
  show (if p = 0 then 1 else if 513 ≤ p then 510 else p - 1) = p - 1
  rw [if_neg h0.ne', if_neg (not_le.2 h)]
theorem mir_high (p : ℕ) (h : 513 ≤ p) : (mir p).val = 510 := by
  show (if p = 0 then 1 else if 513 ≤ p then 510 else p - 1) = 510
  rw [if_neg (by omega), if_pos h]

theorem right_apply (a : Plane .f32) (h w : Fin 512) : HogImage.right a (ix2 h w) = a (ix2 h (mir (w.val + 2))) := by
  unfold HogImage.right
  by_cases hw : w.val < 511
  · rw [concatenate_pair_apply_left (t := S512x512) (s₁ := S512x511) (s₂ := S512x1) 1 _ _ _ (ix2 h w) rfl
      (ix2 (n0 := 512) (n1 := 511) h ⟨w.val, hw⟩) (fun b => match b with | ⟨0, _⟩ => rfl | ⟨1, _⟩ => rfl)]
    exact extractStridedSlice_apply _ a _ _ (ix2 h (mir (w.val + 2))) (fun b => match b with
      | ⟨0, _⟩ => (Nat.zero_add _).symm
      | ⟨1, _⟩ => by show (mir (w.val + 2)).val = 1 + w.val; rw [mir_mid _ (by omega) (by omega)]; omega)
  · rw [concatenate_pair_apply_right (t := S512x512) (s₁ := S512x511) (s₂ := S512x1) 1 _ _ _ (ix2 h w) rfl rfl
      (ix2 (n0 := 512) (n1 := 1) h ⟨0, Nat.one_pos⟩) (fun b => match b with | ⟨0, _⟩ => fun _ => rfl | ⟨1, _⟩ => fun hb => absurd rfl hb)
      (by show 0 + 511 = w.val; have := w.isLt; omega)]
    exact extractStridedSlice_apply _ a _ _ (ix2 h (mir (w.val + 2))) (fun b => match b with
      | ⟨0, _⟩ => (Nat.zero_add _).symm
      | ⟨1, _⟩ => by show (mir (w.val + 2)).val = 510 + 0; rw [mir_high _ (by omega)])

theorem left_apply (a : Plane .f32) (h w : Fin 512) : HogImage.left a (ix2 h w) = a (ix2 h (mir w)) := by
  unfold HogImage.left
  by_cases hw : w.val < 1
  · rw [concatenate_pair_apply_left (t := S512x512) (s₁ := S512x1) (s₂ := S512x511) 1 _ _ _ (ix2 h w) rfl
      (ix2 (n0 := 512) (n1 := 1) h ⟨w.val, hw⟩) (fun b => match b with | ⟨0, _⟩ => rfl | ⟨1, _⟩ => rfl)]
    exact extractStridedSlice_apply _ a _ _ (ix2 h (mir w)) (fun b => match b with
      | ⟨0, _⟩ => (Nat.zero_add _).symm
      | ⟨1, _⟩ => by show (mir w).val = 1 + w.val; rw [show w.val = 0 by omega]; rfl)
  · rw [concatenate_pair_apply_right (t := S512x512) (s₁ := S512x1) (s₂ := S512x511) 1 _ _ _ (ix2 h w) rfl rfl
      (ix2 (n0 := 512) (n1 := 511) h ⟨w.val - 1, by omega⟩) (fun b => match b with | ⟨0, _⟩ => fun _ => rfl | ⟨1, _⟩ => fun hb => absurd rfl hb)
      (by show w.val - 1 + 1 = w.val; omega)]
    exact extractStridedSlice_apply _ a _ _ (ix2 h (mir w)) (fun b => match b with
      | ⟨0, _⟩ => (Nat.zero_add _).symm
      | ⟨1, _⟩ => by show (mir w).val = 0 + (w.val - 1); rw [mir_mid _ (by omega) (by omega)]; omega)

theorem down_apply (a : Plane .f32) (h w : Fin 512) : HogImage.down a (ix2 h w) = a (ix2 (mir (h.val + 2)) w) := by
  unfold HogImage.down
  by_cases hw : h.val < 511
  · rw [concatenate_pair_apply_left (t := S512x512) (s₁ := S511x512) (s₂ := S1x512) 0 _ _ _ (ix2 h w) rfl
      (ix2 (n0 := 511) (n1 := 512) ⟨h.val, hw⟩ w) (fun b => match b with | ⟨0, _⟩ => rfl | ⟨1, _⟩ => rfl)]
    exact extractStridedSlice_apply _ a _ _ (ix2 (mir (h.val + 2)) w) (fun b => match b with
      | ⟨1, _⟩ => (Nat.zero_add _).symm
      | ⟨0, _⟩ => by show (mir (h.val + 2)).val = 1 + h.val; rw [mir_mid _ (by omega) (by omega)]; omega)
  · rw [concatenate_pair_apply_right (t := S512x512) (s₁ := S511x512) (s₂ := S1x512) 0 _ _ _ (ix2 h w) rfl rfl
      (ix2 (n0 := 1) (n1 := 512) ⟨0, Nat.one_pos⟩ w) (fun b => match b with | ⟨1, _⟩ => fun _ => rfl | ⟨0, _⟩ => fun hb => absurd rfl hb)
      (by show 0 + 511 = h.val; have := h.isLt; omega)]
    exact extractStridedSlice_apply _ a _ _ (ix2 (mir (h.val + 2)) w) (fun b => match b with
      | ⟨1, _⟩ => (Nat.zero_add _).symm
      | ⟨0, _⟩ => by show (mir (h.val + 2)).val = 510 + 0; rw [mir_high _ (by omega)])

theorem up_apply (a : Plane .f32) (h w : Fin 512) : HogImage.up a (ix2 h w) = a (ix2 (mir h) w) := by
  unfold HogImage.up
  by_cases hw : h.val < 1
  · rw [concatenate_pair_apply_left (t := S512x512) (s₁ := S1x512) (s₂ := S511x512) 0 _ _ _ (ix2 h w) rfl
      (ix2 (n0 := 1) (n1 := 512) ⟨h.val, hw⟩ w) (fun b => match b with | ⟨0, _⟩ => rfl | ⟨1, _⟩ => rfl)]
    exact extractStridedSlice_apply _ a _ _ (ix2 (mir h) w) (fun b => match b with
      | ⟨1, _⟩ => (Nat.zero_add _).symm
      | ⟨0, _⟩ => by show (mir h).val = 1 + h.val; rw [show h.val = 0 by omega]; rfl)
  · rw [concatenate_pair_apply_right (t := S512x512) (s₁ := S1x512) (s₂ := S511x512) 0 _ _ _ (ix2 h w) rfl rfl
      (ix2 (n0 := 511) (n1 := 512) ⟨h.val - 1, by omega⟩ w) (fun b => match b with | ⟨1, _⟩ => fun _ => rfl | ⟨0, _⟩ => fun hb => absurd rfl hb)
      (by show h.val - 1 + 1 = h.val; omega)]
    exact extractStridedSlice_apply _ a _ _ (ix2 (mir h) w) (fun b => match b with
      | ⟨1, _⟩ => (Nat.zero_add _).symm
      | ⟨0, _⟩ => by show (mir h).val = 0 + (h.val - 1); rw [mir_mid _ (by omega) (by omega)]; omega)

/-! ## Elementwise operations, at one entry -/

section Elementwise
variable {φ : FTy} {a b : Plane φ} {c d : IVec S512x512 1} {i : S512x512.Idx} {p q : ℝ}

theorem add_reads (ha : a i = (p : EReal)) (hb : b i = (q : EReal)) : addf a b i = ((p + q : ℝ) : EReal) := by
  rw [addf_apply, ha, hb, ← EReal.coe_add]
theorem sub_reads (ha : a i = (p : EReal)) (hb : b i = (q : EReal)) : subf a b i = ((p - q : ℝ) : EReal) := by
  rw [subf_apply, ha, hb, ← EReal.coe_sub]
theorem mul_reads (ha : a i = (p : EReal)) (hb : b i = (q : EReal)) : mulf a b i = ((p * q : ℝ) : EReal) := by
  rw [mulf_apply, ha, hb, ← EReal.coe_mul]
theorem min_reads (ha : a i = (p : EReal)) (hb : b i = (q : EReal)) : minimumf a b i = ((min p q : ℝ) : EReal) := by
  rw [minimumf_apply, ha, hb, min_real]
theorem max_reads (ha : a i = (p : EReal)) (hb : b i = (q : EReal)) : maximumf a b i = ((max p q : ℝ) : EReal) := by
  rw [maximumf_apply, ha, hb, max_real]
theorem abs_reads (ha : a i = (p : EReal)) : absf a i = ((|p| : ℝ) : EReal) := by
  show max (a i) (-(a i)) = _
  rw [ha, abs_real]
theorem div_reads (ha : a i = (p : EReal)) (hb : b i = (q : EReal)) (h0 : q ≠ 0) : divf a b i = ((p / q : ℝ) : EReal) := by
  rw [divf_apply, ha, hb, div_real _ _ h0]
theorem sqrt_reads (ha : a i = (p : EReal)) (h0 : 0 ≤ p) : sqrt a i = ((Real.sqrt p : ℝ) : EReal) := by
  show Ideal.sqrt (a i) = _
  rw [ha, sqrt_real _ h0]
theorem floor_reads (ha : a i = (p : EReal)) : floor a i = (((⌊p⌋ : ℤ) : ℝ) : EReal) := by
  show Ideal.liftRound Int.floor (a i) = _
  rw [ha, Ideal.liftRound_coe]
theorem select_apply {P : Prop} [Decidable P] (hc : c i = 1#1 ↔ P) : select c a b i = if P then a i else b i := by
  show Scalar.select (c i) (a i) (b i) = _
  by_cases hP : P
  · rw [if_pos hP, hc.2 hP, select_one]
  · rw [if_neg hP, eq_zero_of_ne_one (mt hc.1 hP), select_zero]
theorem select_reads {P : Prop} [Decidable P] (hc : c i = 1#1 ↔ P) (ha : a i = (p : EReal)) (hb : b i = (q : EReal)) :
    select c a b i = ((if P then p else q : ℝ) : EReal) := by
  rw [select_apply hc, ha, hb]
  split_ifs <;> rfl
theorem const_reads (w : BitVec 32) (r : ℝ) (h : Ideal.ofBits .f32 w = (r : EReal)) : HogImage.const w i = (r : EReal) := h
theorem one_iff (P : Prop) [Decidable P] : BitVec.ofBool (decide P) = 1#1 ↔ P := by by_cases h : P <;> simp [h]
theorem oge_apply : cmpf .oge a b i = 1#1 ↔ (b i : EReal) ≤ a i := by
  show BitVec.ofBool (decide ((b i : EReal) ≤ a i)) = 1#1 ↔ _
  rw [one_iff]
theorem ogt_apply : cmpf .ogt a b i = 1#1 ↔ (b i : EReal) < a i := by
  show BitVec.ofBool (decide ((b i : EReal) < a i)) = 1#1 ↔ _
  rw [one_iff]
theorem olt_apply : cmpf .olt a b i = 1#1 ↔ (a i : EReal) < b i := by
  show BitVec.ofBool (decide ((a i : EReal) < b i)) = 1#1 ↔ _
  rw [one_iff]
theorem oge_tells (ha : a i = (p : EReal)) (hb : b i = (q : EReal)) : cmpf .oge a b i = 1#1 ↔ q ≤ p := by
  rw [oge_apply, ha, hb, EReal.coe_le_coe_iff]
theorem ogt_tells (ha : a i = (p : EReal)) (hb : b i = (q : EReal)) : cmpf .ogt a b i = 1#1 ↔ q < p := by
  rw [ogt_apply, ha, hb, EReal.coe_lt_coe_iff]
theorem olt_tells (ha : a i = (p : EReal)) (hb : b i = (q : EReal)) : cmpf .olt a b i = 1#1 ↔ p < q := by
  rw [olt_apply, ha, hb, EReal.coe_lt_coe_iff]
theorem oeq_tells (ha : a i = (p : EReal)) (hb : b i = (q : EReal)) : cmpf .oeq a b i = 1#1 ↔ p = q := by
  show BitVec.ofBool (decide ((a i : EReal) = b i)) = 1#1 ↔ _
  rw [one_iff, ha, hb, EReal.coe_eq_coe_iff]
theorem and_tells {P Q : Prop} (hc : c i = 1#1 ↔ P) (hd : d i = 1#1 ↔ Q) : andi c d i = 1#1 ↔ P ∧ Q := by
  refine Iff.trans ?_ (and_congr hc hd)
  show (c i) &&& (d i) = 1#1 ↔ _
  generalize c i = x; generalize d i = y
  revert x y; decide
theorem not_tells {P : Prop} (hc : c i = 1#1 ↔ P) : xori c (constantI S512x512 1 1#1) i = 1#1 ↔ ¬ P := by
  refine Iff.trans ?_ (not_congr hc)
  show (c i) ^^^ 1#1 = 1#1 ↔ _
  generalize c i = x
  revert x; decide

end Elementwise

/-! ## Gradients -/

theorem mir_self (w : Fin 512) : mir (w.val + 1) = w := by
  apply Fin.ext; have := w.isLt; rw [mir_mid _ (by omega) (by omega)]; omega

section Gradients
variable {a : Plane .f32} {e : EChan}

theorem diff_apply (ha : Holds a e) (h w : Fin 512) : diff a (ix2 h w) = e h (mir (w.val + 2)) - e h (mir w) := by
  show HogImage.right a (ix2 h w) - HogImage.left a (ix2 h w) = _
  rw [right_apply, left_apply, ha, ha]

theorem smooth_apply (ha : Holds a e) (h w : Fin 512) :
    smooth a (ix2 h w) = e h (mir (w.val + 2)) + e h (mir w) + ((2 : ℝ) : EReal) * e h (mir (w.val + 1)) := by
  show HogImage.right a (ix2 h w) + HogImage.left a (ix2 h w) + Ideal.ofBits .f32 0x40000000#32 * a (ix2 h w) = _
  rw [right_apply, left_apply, ha, ha, ha, f32_2, mir_self]

theorem gradX_apply (ha : Holds a e) (h w : Fin 512) : gradX a (ix2 h w)
    = (epad e h (w.val + 2) - epad e h w) + (epad e (h.val + 2) (w.val + 2) - epad e (h.val + 2) w)
      + ((2 : ℝ) : EReal) * (epad e (h.val + 1) (w.val + 2) - epad e (h.val + 1) w) := by
  show up (diff a) (ix2 h w) + down (diff a) (ix2 h w) + Ideal.ofBits .f32 0x40000000#32 * diff a (ix2 h w) = _
  rw [up_apply, down_apply, diff_apply ha, diff_apply ha, diff_apply ha, f32_2]
  unfold epad
  rw [mir_self]

theorem gradY_apply (ha : Holds a e) (h w : Fin 512) : gradY a (ix2 h w)
    = (epad e (h.val + 2) (w.val + 2) + epad e (h.val + 2) w + ((2 : ℝ) : EReal) * epad e (h.val + 2) (w.val + 1))
      - (epad e h (w.val + 2) + epad e h w + ((2 : ℝ) : EReal) * epad e h (w.val + 1)) := by
  show down (smooth a) (ix2 h w) - up (smooth a) (ix2 h w) = _
  rw [up_apply, down_apply, smooth_apply ha, smooth_apply ha]
  rfl

theorem gradX_inf (ha : Holds a e) (h w : Fin 512) (hb : BadX e h w) : Inf (gradX a (ix2 h w)) := by
  rw [gradX_apply ha]
  simp only [inf_add, inf_sub, inf_mul two_ne_zero]
  unfold BadX at hb
  tauto

theorem gradY_inf (ha : Holds a e) (h w : Fin 512) (hb : BadY e h w) : Inf (gradY a (ix2 h w)) := by
  rw [gradY_apply ha]
  simp only [inf_add, inf_sub, inf_mul two_ne_zero]
  unfold BadY at hb
  tauto

theorem gradX_reads (ha : Holds a e) (h w : Fin 512) (hb : ¬ BadX e h w) : gradX a (ix2 h w) = ((gX (re e) h w : ℝ) : EReal) := by
  unfold BadX at hb
  push Not at hb
  obtain ⟨b0, b1, b2, b3, b4, b5⟩ := hb
  rw [gradX_apply ha, epad_real b0, epad_real b1, epad_real b2, epad_real b3, epad_real b4, epad_real b5]
  simp only [← EReal.coe_add, ← EReal.coe_sub, ← EReal.coe_mul]
  refine congrArg _ ?_
  unfold gX
  ring

theorem gradY_reads (ha : Holds a e) (h w : Fin 512) (hb : ¬ BadY e h w) : gradY a (ix2 h w) = ((gY (re e) h w : ℝ) : EReal) := by
  unfold BadY at hb
  push Not at hb
  obtain ⟨b0, b1, b2, b3, b4, b5⟩ := hb
  rw [gradY_apply ha, epad_real b0, epad_real b1, epad_real b2, epad_real b3, epad_real b4, epad_real b5]
  simp only [← EReal.coe_add, ← EReal.coe_sub, ← EReal.coe_mul]
  refine congrArg _ ?_
  unfold gY
  ring

theorem sq_reads (ha : Holds a e) (h w : Fin 512) (hf : Fine e h w) :
    sq (gradX a) (gradY a) (ix2 h w) = ((gS (re e) h w : ℝ) : EReal) :=
  add_reads (mul_reads (gradX_reads ha h w hf.1) (gradX_reads ha h w hf.1)) (mul_reads (gradY_reads ha h w hf.2) (gradY_reads ha h w hf.2))

theorem sq_inf (ha : Holds a e) (h w : Fin 512) (hf : ¬ Fine e h w) : sq (gradX a) (gradY a) (ix2 h w) = (⊤ : EReal) := by
  refine squares_inf ?_
  unfold Fine at hf
  by_cases hx : BadX e h w
  · exact Or.inl (gradX_inf ha h w hx)
  · exact Or.inr (gradY_inf ha h w (by_contra fun hy => hf ⟨hx, hy⟩))

/-- Of three numbers, perhaps infinite, the one whose key is the greatest, the first of equals. -/
def pickE (s0 s1 s2 x0 x1 x2 : EReal) : EReal := if s1 ≤ s0 ∧ s2 ≤ s0 then x0 else if s2 ≤ s1 then x1 else x2

theorem pick_apply {n0 n1 n2 x0 x1 x2 : Plane .f32} (i : S512x512.Idx) :
    pick n0 n1 n2 x0 x1 x2 i = pickE (n0 i) (n1 i) (n2 i) (x0 i) (x1 i) (x2 i) := by
  have hf : first n0 n1 n2 i = 1#1 ↔ ((n1 i : EReal) ≤ n0 i ∧ (n2 i : EReal) ≤ n0 i) := and_tells oge_apply oge_apply
  have hs : second n0 n1 n2 i = 1#1 ↔ (¬ ((n1 i : EReal) ≤ n0 i ∧ (n2 i : EReal) ≤ n0 i) ∧ (n2 i : EReal) ≤ n1 i) :=
    and_tells (not_tells hf) oge_apply
  unfold pick
  rw [select_apply hf, select_apply hs]
  unfold pickE
  by_cases c : (n1 i : EReal) ≤ n0 i ∧ (n2 i : EReal) ≤ n0 i
  · rw [if_pos c, if_pos c]
  · simp only [if_neg c, not_false_eq_true, true_and, c]

theorem pickE_real (s0 s1 s2 x0 x1 x2 : ℝ) : pickE s0 s1 s2 x0 x1 x2 = ((pickR s0 s1 s2 x0 x1 x2 : ℝ) : EReal) := by
  unfold pickE pickR
  simp only [EReal.coe_le_coe_iff]
  split_ifs <;> rfl

/-- The greatest key is infinite where a key is. -/
theorem pickE_top {s0 s1 s2 : EReal} (h : s0 = ⊤ ∨ s1 = ⊤ ∨ s2 = ⊤) : pickE s0 s1 s2 s0 s1 s2 = ⊤ := by
  unfold pickE
  split_ifs with c c'
  · rcases h with rfl | rfl | rfl
    · rfl
    · exact top_le_iff.1 c.1
    · exact top_le_iff.1 c.2
  · rcases h with rfl | rfl | rfl
    · exact absurd ⟨le_top, le_top⟩ c
    · rfl
    · exact top_le_iff.1 c'
  · rcases h with rfl | rfl | rfl
    · exact absurd ⟨le_top, le_top⟩ c
    · exact absurd le_top c'
    · rfl

section Best
variable {a0 a1 a2 : Plane .f32} {E : Fin 3 → EChan} (h0 : Holds a0 (E 0)) (h1 : Holds a1 (E 1)) (h2 : Holds a2 (E 2)) (h w : Fin 512)
include h0 h1 h2

theorem best_reads (hf : FineAt E h w) {x0 x1 x2 : Plane .f32} {r0 r1 r2 : ℝ} (k0 : x0 (ix2 h w) = (r0 : EReal))
    (k1 : x1 (ix2 h w) = (r1 : EReal)) (k2 : x2 (ix2 h w) = (r2 : EReal)) : best a0 a1 a2 x0 x1 x2 (ix2 h w)
      = ((pickR (gS (reals E 0) h w) (gS (reals E 1) h w) (gS (reals E 2) h w) r0 r1 r2 : ℝ) : EReal) := by
  refine (pick_apply _).trans ?_
  rw [sq_reads h0 h w (hf 0), sq_reads h1 h w (hf 1), sq_reads h2 h w (hf 2), k0, k1, k2, pickE_real]

theorem bestX_reads (hf : FineAt E h w) : bestX a0 a1 a2 (ix2 h w) = ((bestXR (reals E) h w : ℝ) : EReal) :=
  best_reads h0 h1 h2 h w hf (gradX_reads h0 h w (hf 0).1) (gradX_reads h1 h w (hf 1).1) (gradX_reads h2 h w (hf 2).1)
theorem bestY_reads (hf : FineAt E h w) : bestY a0 a1 a2 (ix2 h w) = ((bestYR (reals E) h w : ℝ) : EReal) :=
  best_reads h0 h1 h2 h w hf (gradY_reads h0 h w (hf 0).2) (gradY_reads h1 h w (hf 1).2) (gradY_reads h2 h w (hf 2).2)
theorem bestN_reads (hf : FineAt E h w) : bestN a0 a1 a2 (ix2 h w) = ((bestNR (reals E) h w : ℝ) : EReal) :=
  sqrt_reads (best_reads h0 h1 h2 h w hf (sq_reads h0 h w (hf 0)) (sq_reads h1 h w (hf 1)) (sq_reads h2 h w (hf 2)))
    (pickR_nonneg _ _ _ (gS_nonneg _ h w) (gS_nonneg _ h w) (gS_nonneg _ h w))

/-- The longest gradient is infinite where a gradient is. -/
theorem bestN_inf (hf : ¬ FineAt E h w) : bestN a0 a1 a2 (ix2 h w) = (⊤ : EReal) := by
  have e : best a0 a1 a2 (sq (gradX a0) (gradY a0)) (sq (gradX a1) (gradY a1)) (sq (gradX a2) (gradY a2)) (ix2 h w) = (⊤ : EReal) := by
    refine (pick_apply _).trans (pickE_top ?_)
    unfold FineAt at hf
    push Not at hf
    obtain ⟨c, hc⟩ := hf
    match c, hc with
    | ⟨0, _⟩, hc => exact Or.inl (sq_inf h0 h w hc)
    | ⟨1, _⟩, hc => exact Or.inr (Or.inl (sq_inf h1 h w hc))
    | ⟨2, _⟩, hc => exact Or.inr (Or.inr (sq_inf h2 h w hc))
  exact congrArg Ideal.sqrt e

end Best

end Gradients

/-! ## The coordinate and the votes -/

section Votes
variable {x y n : Plane .f32} {i : S512x512.Idx} {X Y : ℝ}

theorem coef_reads (s : String) (w : BitVec 32) (r : ℝ) (h : KernelIdeal.κ s = some (r : EReal)) : coef s w i = (r : EReal) := by
  show (KernelIdeal.κ s).getD _ = _
  rw [h]; rfl

theorem poly_reads {q : Plane .f32} {Q : ℝ} (hq : q i = (Q : EReal)) : poly q i = ((9 / Real.pi * arc Q : ℝ) : EReal) := by
  have qq := mul_reads hq hq
  have := mul_reads hq (add_reads (coef_reads "gain_a0" 0x4037526A#32 _ rfl) (mul_reads qq (add_reads
    (coef_reads "gain_a1" 0xBF723CAD#32 _ rfl) (mul_reads qq (add_reads (coef_reads "gain_a2" 0x3F041CE6#32 _ rfl) (mul_reads qq
      (add_reads (coef_reads "gain_a3" 0xBE79BDCC#32 _ rfl) (mul_reads qq (coef_reads "gain_a4" 0x3D747B94#32 _ rfl)))))))))
  refine Eq.trans this (congrArg _ ?_)
  unfold arc
  ring

theorem slope_reads (hx : x i = (X : EReal)) (hy : y i = (Y : EReal)) : slope x y i = ((ratio X Y : ℝ) : EReal) := by
  have m := max_reads (abs_reads hx) (abs_reads hy)
  refine div_reads (min_reads (abs_reads hx) (abs_reads hy))
    (select_reads (oeq_tells m (const_reads _ _ f32_0)) (const_reads _ _ f32_1) m) ?_
  split_ifs with hm
  · exact one_ne_zero
  · exact hm

/-- An infinite gradient's slope is zero. -/
theorem slope_inf (h : Inf (x i) ∨ Inf (y i)) : slope x y i = ((0 : ℝ) : EReal) := by
  have habs : ∀ z : EReal, Inf z → max z (-z) = ⊤ := by
    rintro z (rfl | rfl) <;> simp
  have hm : maximumf (absf x) (absf y) i = (⊤ : EReal) := by
    show max (max (x i : EReal) (-(x i))) (max (y i : EReal) (-(y i))) = ⊤
    rcases h with h | h
    · rw [habs _ h]; exact max_eq_left le_top
    · rw [habs _ h]; exact max_eq_right le_top
  have hc : cmpf .oeq (maximumf (absf x) (absf y)) (HogImage.const 0x00000000#32) i = 1#1 ↔ False := by
    show BitVec.ofBool (decide ((maximumf (absf x) (absf y) i : EReal) = Ideal.ofBits .f32 0x00000000#32)) = 1#1 ↔ _
    rw [one_iff, hm, f32_0]
    simp
  unfold HogImage.slope
  rw [divf_apply, select_apply hc, if_neg not_false, hm]
  exact (div_top _).trans EReal.coe_zero.symm

/-- The turned angle, from the acute angle and the signs. -/
theorem coord_of (q : ℝ) (hq : slope x y i = (q : EReal)) :
    coord x y i = (((let t := (if (x i : EReal) * y i < 0 then 9 - (if (absf x i : EReal) < absf y i then 9 / 2 - 9 / Real.pi * arc q else 9 / Real.pi * arc q)
      else (if (absf x i : EReal) < absf y i then 9 / 2 - 9 / Real.pi * arc q else 9 / Real.pi * arc q)); if 9 ≤ t then 0 else t) : ℝ) : EReal) := by
  have ha : acute x y i = ((if (absf x i : EReal) < absf y i then 9 / 2 - 9 / Real.pi * arc q else 9 / Real.pi * arc q : ℝ) : EReal) :=
    select_reads ogt_apply (sub_reads (const_reads _ _ f32_half9) (poly_reads hq)) (poly_reads hq)
  have hneg : cmpf .olt (mulf x y) (HogImage.const 0x00000000#32) i = 1#1 ↔ (x i : EReal) * y i < 0 := by
    rw [olt_apply, mulf_apply]
    show (x i : EReal) * y i < Ideal.ofBits .f32 0x00000000#32 ↔ _
    rw [f32_0, EReal.coe_zero]
  have t : turned x y i = _ := select_reads hneg (sub_reads (const_reads _ _ f32_9) ha) ha
  exact select_reads (oge_tells t (const_reads _ _ f32_9)) (const_reads _ _ f32_0) t

theorem coord_reads (hx : x i = (X : EReal)) (hy : y i = (Y : EReal)) : coord x y i = ((coordR X Y : ℝ) : EReal) := by
  rw [coord_of _ (slope_reads hx hy)]
  have e1 : ((x i : EReal) * y i < 0) ↔ X * Y < 0 := by
    rw [hx, hy, ← EReal.coe_mul, ← EReal.coe_zero, EReal.coe_lt_coe_iff]
  have e2 : ((absf x i : EReal) < absf y i) ↔ |X| < |Y| := by
    rw [abs_reads hx, abs_reads hy, EReal.coe_lt_coe_iff]
  simp only [e1, e2]
  rfl

/-- The coordinate of any gradient is a real number from 0 to 9. -/
theorem coord_any : ∃ c : ℝ, 0 ≤ c ∧ c < 9 ∧ coord x y i = (c : EReal) := by
  by_cases h : Inf (x i) ∨ Inf (y i)
  · rw [coord_of 0 (slope_inf h), arc_zero]
    refine ⟨_, ?_, ?_, rfl⟩ <;> dsimp only <;> split_ifs <;> norm_num at *
  · obtain ⟨hx, hy⟩ := not_or.1 h
    obtain ⟨-, c0, c9⟩ := angle_eq (EReal.toReal (x i)) (EReal.toReal (y i))
    exact ⟨_, c0, c9, coord_reads (real_of_not_inf hx) (real_of_not_inf hy)⟩

theorem const16_reads (w : BitVec 16) (r : ℝ) (h : Ideal.ofBits .bf16 w = (r : EReal)) :
    (broadcast S512x512 (Scalar.ofBits .bf16 w : Ideal .bf16) : Plane .bf16) i = (r : EReal) := h

/-- An entry of the plane of votes for bin k. -/
theorem mask_reads {c : ℝ} (hc : coord x y i = (c : EReal)) (w w' : BitVec 16) (k : Fin 9) (r r' : ℝ)
    (e : Ideal.ofBits .bf16 w = (r : EReal)) (e' : Ideal.ofBits .bf16 w' = (r' : EReal)) (hr : r = (k.val : ℝ))
    (hr' : r' = (((k.val + 8) % 9 : ℕ) : ℝ)) :
    mask w w' (bin x y) (high x y n) (low x y n) i = voteE c (n i) k := by
  subst hr hr'
  have f : bin x y i = (((⌊c⌋ : ℤ) : ℝ) : EReal) := floor_reads hc
  have hi : high x y n i = ((c - ⌊c⌋ : ℝ) : EReal) * n i := by
    show (subf (coord x y) (floor (coord x y)) i : EReal) * n i = _
    rw [sub_reads hc (floor_reads hc)]
  have lo : low x y n i = (n i : EReal) - ((c - ⌊c⌋ : ℝ) : EReal) * n i := by
    show (n i : EReal) - high x y n i = _
    rw [hi]
  have z : (HogImage.none16 : Plane .bf16) i = (0 : EReal) := bf16_0.trans EReal.coe_zero
  show (select (cmpf .oeq (bin x y) _) (low x y n) HogImage.none16 i : EReal) + select (cmpf .oeq (bin x y) _) (high x y n) HogImage.none16 i = _
  rw [select_apply (oeq_tells f (const16_reads w _ e)), select_apply (oeq_tells f (const16_reads w' _ e')), lo, hi, z]
  rfl

end Votes

end Cert.HogPlanes
-- ==== Proof.Cells.lean ====
/- The kernel's histogram read entry by entry: the votes added over the pixels of a cell, over 256. -/
module

public import proofs.«01_k».proof.Proof.Planes
public import Idealize.ShloMosaic.Lib.MatmulPlain

@[expose] public section

noncomputable section

namespace Cert.HogCells

open Idealize.ShloMosaic Idealize.ShloMosaic.ValueIdx Cert.KernelIdeal Cert.KernelIdeal.Gen Cert.HogImage Cert.HogSpec Cert.HogWords Cert.HogPlanes

/-- The word that is 1 where the quotient of n by 16 is m, as the kernel computes it. -/
def cellWord (n m : BitVec 32) : BitVec 32 :=
  (IntOp.cmpi .eq (Scalar.select (IntOp.andi (IntOp.cmpi .ne (IntOp.subi ((IntOp.cmpi .sgt n 0#32).setWidth 32) ((IntOp.cmpi .slt n 0#32).setWidth 32))
    (Scalar.subi (Scalar.extui (Scalar.cmpi .sgt 16#32 0#32)) (Scalar.extui (Scalar.cmpi .slt 16#32 0#32))))
    (IntOp.cmpi .ne (IntOp.remsi .vector n 16#32) 0#32)) (IntOp.subi (IntOp.divsi .vector n 16#32) 1#32) (IntOp.divsi .vector n 16#32)) m).setWidth 32

/-- The quotient alone. -/
def quotWord (n : BitVec 32) : BitVec 32 :=
  Scalar.select (IntOp.andi (IntOp.cmpi .ne (IntOp.subi ((IntOp.cmpi .sgt n 0#32).setWidth 32) ((IntOp.cmpi .slt n 0#32).setWidth 32))
    (Scalar.subi (Scalar.extui (Scalar.cmpi .sgt 16#32 0#32)) (Scalar.extui (Scalar.cmpi .slt 16#32 0#32))))
    (IntOp.cmpi .ne (IntOp.remsi .vector n 16#32) 0#32)) (IntOp.subi (IntOp.divsi .vector n 16#32) 1#32) (IntOp.divsi .vector n 16#32)

theorem quotWord_eq : ∀ n : Fin 512, quotWord (BitVec.ofNat 32 n.val) = BitVec.ofNat 32 (n.val / 16) := by decide +kernel

theorem eq_word : ∀ a i : Fin 32, ((IntOp.cmpi .eq (BitVec.ofNat 32 a.val) (BitVec.ofNat 32 i.val)).setWidth 32).toInt = if a = i then 1 else 0 := by
  decide +kernel

theorem cellWord_eq (n : Fin 512) (i : Fin 32) :
    (cellWord (BitVec.ofNat 32 n.val) (BitVec.ofNat 32 i.val)).toInt = if n.val / 16 = i.val then 1 else 0 := by
  show ((IntOp.cmpi .eq (quotWord (BitVec.ofNat 32 n.val)) (BitVec.ofNat 32 i.val)).setWidth 32).toInt = _
  rw [quotWord_eq, eq_word ⟨n.val / 16, by omega⟩ i]
  simp only [Fin.ext_iff]

theorem cellRows_reads (i : Fin 32) (h : Fin 512) : cellRows (ix2 i h) = ((if h.val / 16 = i.val then 1 else 0 : ℝ) : EReal) := by
  have e1 : acrossR (ix2 i h) = BitVec.ofNat 32 h.val := iota_single_apply ..
  have e2 : downR (ix2 i h) = BitVec.ofNat 32 i.val := iota_single_apply ..
  show (((cellWord (acrossR (ix2 i h)) (downR (ix2 i h))).toInt : ℝ) : EReal) = _
  rw [e1, e2, cellWord_eq]
  split_ifs <;> simp

theorem cellCols_reads (w : Fin 512) (j : Fin 32) : cellCols (ix2 w j) = ((if w.val / 16 = j.val then 1 else 0 : ℝ) : EReal) := by
  have e1 : downC (ix2 w j) = BitVec.ofNat 32 w.val := iota_single_apply ..
  have e2 : acrossC (ix2 w j) = BitVec.ofNat 32 j.val := iota_single_apply ..
  show (((cellWord (downC (ix2 w j)) (acrossC (ix2 w j))).toInt : ℝ) : EReal) = _
  rw [e1, e2, cellWord_eq]
  split_ifs <;> simp

/-- A sum over 512 pixels of those in one cell is the sum over the cell's 16 pixels. -/
theorem sum_cell (i : Fin 32) (f : Fin 512 → EReal) :
    (∑ h : Fin 512, ((if h.val / 16 = i.val then 1 else 0 : ℝ) : EReal) * f h) = ∑ r : Fin 16, f (inCell i r) := by
  have e : ∀ h : Fin 512, ((if h.val / 16 = i.val then 1 else 0 : ℝ) : EReal) * f h = if h.val / 16 = i.val then f h else 0 := fun h => by
    split_ifs <;> simp
  simp only [e]
  rw [← Finset.sum_filter]
  refine Finset.sum_bij' (fun h _ => (⟨h.val % 16, Nat.mod_lt _ (by decide)⟩ : Fin 16)) (fun r _ => inCell i r) ?_ ?_ ?_ ?_ ?_
  · intro h _; exact Finset.mem_univ _
  · intro r _
    refine Finset.mem_filter.2 ⟨Finset.mem_univ _, ?_⟩
    show (i.val * 16 + r.val) / 16 = i.val
    have := r.isLt; omega
  · intro h hh
    have := (Finset.mem_filter.1 hh).2
    apply Fin.ext
    show i.val * 16 + h.val % 16 = h.val
    omega
  · intro r _
    apply Fin.ext
    show (i.val * 16 + r.val) % 16 = r.val
    have := r.isLt; omega
  · intro h hh
    have := (Finset.mem_filter.1 hh).2
    congr 1
    apply Fin.ext
    show h.val = i.val * 16 + h.val % 16
    omega

theorem rowSum_apply (m : Plane .bf16) (i : Fin 32) (w : Fin 512) : rowSum m (ix2 i w) = ∑ r : Fin 16, (m (ix2 (inCell i r) w) : EReal) := by
  refine Eq.trans (Ideal.matmul_plain_apply none cellRows m (constant S32x512 .f32 0x00000000#32) i w) ?_
  rw [show constant (F := Ideal) S32x512 .f32 0x00000000#32 (ix2 i w) = ((0 : ℝ) : EReal) from f32_0, EReal.coe_zero, zero_add]
  rw [Finset.sum_congr rfl fun h _ => by rw [cellRows_reads], sum_cell i fun h => m (ix2 h w)]

/-- Row i of the k-th of nine arrays stacked. -/
theorem stack9_piece (r0 r1 r2 r3 r4 r5 r6 r7 r8 : FVec Ideal S32x512 .f32) (k : ℕ) (hk : k < 9) (r : FVec Ideal S32x512 .f32)
    (hr : ([⟨S32x512, r0⟩, ⟨S32x512, r1⟩, ⟨S32x512, r2⟩, ⟨S32x512, r3⟩, ⟨S32x512, r4⟩, ⟨S32x512, r5⟩,
      ⟨S32x512, r6⟩, ⟨S32x512, r7⟩, ⟨S32x512, r8⟩] : List ((s : Shape) × (s.Idx → Ideal .f32)))[k]'hk = ⟨S32x512, r⟩)
    (hp : (((([⟨S32x512, r0⟩, ⟨S32x512, r1⟩, ⟨S32x512, r2⟩, ⟨S32x512, r3⟩, ⟨S32x512, r4⟩, ⟨S32x512, r5⟩,
      ⟨S32x512, r6⟩, ⟨S32x512, r7⟩, ⟨S32x512, r8⟩] : List ((s : Shape) × (s.Idx → Ideal .f32))).take k).map (·.1)).map
        fun s => if h : s.rank = S288x512.rank then s.size ((0 : Fin S288x512.rank).cast h.symm) else 0).sum = 32 * k)
    (i : Fin 32) (p : Fin 288) (e : p.val = 32 * k + i.val) (w : Fin 512) :
    stack9 r0 r1 r2 r3 r4 r5 r6 r7 r8 (ix2 p w) = r (ix2 i w) := by
  unfold stack9
  refine concatenate_apply_piece (t := S288x512) 0 [⟨S32x512, r0⟩, ⟨S32x512, r1⟩, ⟨S32x512, r2⟩, ⟨S32x512, r3⟩, ⟨S32x512, r4⟩, ⟨S32x512, r5⟩,
    ⟨S32x512, r6⟩, ⟨S32x512, r7⟩, ⟨S32x512, r8⟩] _ (ix2 p w) k hk S32x512 r hr rfl (32 * k) hp (ix2 i w) ?_ e.symm
  intro b hb
  match b with
  | ⟨0, _⟩ => exact absurd rfl hb
  | ⟨1, _⟩ => rfl

section Hist
variable (x y n : Plane .f32)

/-- The votes of every pixel. -/
def votes (k : Fin 9) : EChan := fun h w => voteE (coord x y (ix2 h w) : EReal).toReal (n (ix2 h w)) k

theorem maskRow (w w' : BitVec 16) (k : Fin 9) (r r' : ℝ) (e : Ideal.ofBits .bf16 w = (r : EReal)) (e' : Ideal.ofBits .bf16 w' = (r' : EReal))
    (hr : r = (k.val : ℝ)) (hr' : r' = (((k.val + 8) % 9 : ℕ) : ℝ)) (i : Fin 32) (q : Fin 512) :
    rowSum (mask w w' (bin x y) (high x y n) (low x y n)) (ix2 i q) = ∑ r : Fin 16, votes x y n k (inCell i r) q := by
  rw [rowSum_apply]
  refine Finset.sum_congr rfl fun r _ => ?_
  obtain ⟨c, -, -, hc⟩ := coord_any (x := x) (y := y) (i := ix2 (inCell i r) q)
  rw [mask_reads hc w w' k _ _ e e' hr hr']
  unfold votes
  rw [hc, EReal.toReal_coe]

theorem rows_apply (k : Fin 9) (i : Fin 32) (p : Fin 288) (e : p.val = 32 * k.val + i.val) (w : Fin 512) :
    rows (bin x y) (high x y n) (low x y n) (ix2 p w) = ∑ r : Fin 16, votes x y n k (inCell i r) w := by
  unfold rows
  match k, e with
  | ⟨0, _⟩, e => exact (stack9_piece _ _ _ _ _ _ _ _ _ 0 (by decide) _ rfl rfl i p e w).trans (maskRow x y n _ _ 0 _ _ bf16_0 bf16_8 (by norm_num) (by norm_num) i w)
  | ⟨1, _⟩, e => exact (stack9_piece _ _ _ _ _ _ _ _ _ 1 (by decide) _ rfl rfl i p e w).trans (maskRow x y n _ _ 1 _ _ bf16_1 bf16_0 (by norm_num) (by norm_num) i w)
  | ⟨2, _⟩, e => exact (stack9_piece _ _ _ _ _ _ _ _ _ 2 (by decide) _ rfl rfl i p e w).trans (maskRow x y n _ _ 2 _ _ bf16_2 bf16_1 (by norm_num) (by norm_num) i w)
  | ⟨3, _⟩, e => exact (stack9_piece _ _ _ _ _ _ _ _ _ 3 (by decide) _ rfl rfl i p e w).trans (maskRow x y n _ _ 3 _ _ bf16_3 bf16_2 (by norm_num) (by norm_num) i w)
  | ⟨4, _⟩, e => exact (stack9_piece _ _ _ _ _ _ _ _ _ 4 (by decide) _ rfl rfl i p e w).trans (maskRow x y n _ _ 4 _ _ bf16_4 bf16_3 (by norm_num) (by norm_num) i w)
  | ⟨5, _⟩, e => exact (stack9_piece _ _ _ _ _ _ _ _ _ 5 (by decide) _ rfl rfl i p e w).trans (maskRow x y n _ _ 5 _ _ bf16_5 bf16_4 (by norm_num) (by norm_num) i w)
  | ⟨6, _⟩, e => exact (stack9_piece _ _ _ _ _ _ _ _ _ 6 (by decide) _ rfl rfl i p e w).trans (maskRow x y n _ _ 6 _ _ bf16_6 bf16_5 (by norm_num) (by norm_num) i w)
  | ⟨7, _⟩, e => exact (stack9_piece _ _ _ _ _ _ _ _ _ 7 (by decide) _ rfl rfl i p e w).trans (maskRow x y n _ _ 7 _ _ bf16_7 bf16_6 (by norm_num) (by norm_num) i w)
  | ⟨8, _⟩, e => exact (stack9_piece _ _ _ _ _ _ _ _ _ 8 (by decide) _ rfl rfl i p e w).trans (maskRow x y n _ _ 8 _ _ bf16_8 bf16_7 (by norm_num) (by norm_num) i w)

/-- The kernel's histogram. -/
theorem hist_apply (k : Fin 9) (i j : Fin 32) : histOf x y n (ix3 k i j)
    = (∑ c : Fin 16, ∑ r : Fin 16, votes x y n k (inCell i r) (inCell j c)) * ((1 / 256 : ℝ) : EReal) := by
  have hp : 32 * k.val + i.val < 288 := by have := k.isLt; have := i.isLt; omega
  let p : Fin 288 := ⟨32 * k.val + i.val, hp⟩
  have ec : shapeCast S9x32x32 (matmul dot_S288x512_S512x32_S288x32_1_0_0_1_n_n (some .fp32) (rows (bin x y) (high x y n) (low x y n)) cellCols
      (constant S288x32 .f32 0x00000000#32)) shapeCasts_S288x32_S9x32x32 (ix3 k i j)
      = matmul dot_S288x512_S512x32_S288x32_1_0_0_1_n_n (some .fp32) (rows (bin x y) (high x y n) (low x y n)) cellCols
      (constant S288x32 .f32 0x00000000#32) (ix2 p j) := by
    refine shapeCast_apply _ _ _ _ ?_
    refine Eq.trans (Shape.rowMajor_val_two _) (Eq.trans ?_ (Shape.rowMajor_val_three _).symm)
    show (32 * k.val + i.val) * 32 + j.val = (k.val * 32 + i.val) * 32 + j.val
    ring
  show shapeCast S9x32x32 (matmul dot_S288x512_S512x32_S288x32_1_0_0_1_n_n (some .fp32) (rows (bin x y) (high x y n) (low x y n)) cellCols
      (constant S288x32 .f32 0x00000000#32)) shapeCasts_S288x32_S9x32x32 (ix3 k i j) * Ideal.ofBits .f32 0x3B800000#32 = _
  rw [ec, f32_inv256]
  have em := Ideal.matmul_plain_apply (some .fp32) (rows (bin x y) (high x y n) (low x y n)) cellCols (constant S288x32 .f32 0x00000000#32) p j
  rw [show constant (F := Ideal) S288x32 .f32 0x00000000#32 (ix2 p j) = ((0 : ℝ) : EReal) from f32_0, EReal.coe_zero, zero_add,
    Finset.sum_congr rfl fun w _ => by rw [cellCols_reads, rows_apply x y n k i p rfl w, mul_comm],
    sum_cell j fun w => ∑ r : Fin 16, votes x y n k (inCell i r) w] at em
  exact congrArg (· * _) em

end Hist

/-- The votes of an image. -/
theorem votes_of {a0 a1 a2 : Plane .f32} {E : Fin 3 → EChan} (h0 : Holds a0 (E 0)) (h1 : Holds a1 (E 1)) (h2 : Holds a2 (E 2)) :
    VotesOf E (votes (bestX a0 a1 a2) (bestY a0 a1 a2) (bestN a0 a1 a2)) := by
  intro h w
  constructor
  · intro hf k
    obtain ⟨-, c0, c9⟩ := angle_eq (bestXR (reals E) h w) (bestYR (reals E) h w)
    unfold votes
    rw [coord_reads (bestX_reads h0 h1 h2 h w hf) (bestY_reads h0 h1 h2 h w hf), bestN_reads h0 h1 h2 h w hf, EReal.toReal_coe]
    exact voteE_real _ _ c0 c9 k
  · intro hf
    obtain ⟨c, c0, c9, hc⟩ := coord_any (x := bestX a0 a1 a2) (y := bestY a0 a1 a2) (i := ix2 h w)
    obtain ⟨k, hk⟩ := voteE_top c c0 c9
    refine ⟨k, ?_⟩
    unfold votes
    rw [hc, EReal.toReal_coe, bestN_inf h0 h1 h2 h w hf]
    exact hk

end Cert.HogCells
-- ==== Proof.Blocks.lean ====
/- The kernel's blocks read entry by entry: the four cells of a block divided by their length, cut, and divided again. -/
module

public import proofs.«01_k».proof.Proof.Cells

@[expose] public section

noncomputable section

namespace Cert.HogBlocks

open Idealize.ShloMosaic Idealize.ShloMosaic.ValueIdx Cert.KernelIdeal Cert.KernelIdeal.Gen Cert.HogImage Cert.HogSpec Cert.HogWords

section
variable (h : FVec Ideal S9x32x32 .f32)

/-- A block of the histogram. -/
def block (y x : Fin 31) (u v : Fin 2) (k : Fin 9) : EReal := h (ix3 k (inBlock y u) (inBlock x v))

theorem cellSq_apply (i j : Fin 32) : cellSq h (ix2 i j) = ∑ k : Fin 9, (h (ix3 k i j) : EReal) * h (ix3 k i j) := by
  refine Eq.trans (Ideal.multiReduction_add_single (mulf h h) 0x00000000#32 reduces_S9x32x32_S32x32 (.inl rfl) rfl (ix2 i j)) ?_
  refine Finset.sum_congr rfl fun k _ => ?_
  have e : reduces_S9x32x32_S32x32.lift (ix2 i j) k = ix3 (show Fin 9 from k) i j := by
    funext a
    match a with
    | ⟨0, _⟩ => rfl
    | ⟨1, _⟩ => rfl
    | ⟨2, _⟩ => rfl
  show h (reduces_S9x32x32_S32x32.lift (ix2 i j) k) * h (reduces_S9x32x32_S32x32.lift (ix2 i j) k) = _
  rw [e]

/-- The slice of the cells of one corner. -/
theorem sqSlice_apply (u v : Fin 2) (hs : S32x32.Slices ![u.val, v.val] S31x31) (y x : Fin 31) :
    extractStridedSlice S31x31 ![u.val, v.val] (cellSq h) hs (ix2 y x)
      = ∑ k : Fin 9, block h y x u v k * block h y x u v k := by
  refine Eq.trans (extractStridedSlice_apply _ _ hs (ix2 y x) (ix2 (inBlock y u) (inBlock x v)) fun a => ?_) (cellSq_apply h _ _)
  match a with
  | ⟨0, _⟩ => exact Nat.add_comm _ _
  | ⟨1, _⟩ => exact Nat.add_comm _ _

theorem blockSq_apply (y x : Fin 31) : blockSq h (ix2 y x) = lenE (block h y x) := by
  have a := sqSlice_apply h 0 0 slices_S32x32_o0_0_S31x31 y x
  have b := sqSlice_apply h 1 0 slices_S32x32_o1_0_S31x31 y x
  have c := sqSlice_apply h 0 1 slices_S32x32_o0_1_S31x31 y x
  have d := sqSlice_apply h 1 1 slices_S32x32_o1_1_S31x31 y x
  refine Eq.trans (congrArg₂ (· + ·) (congrArg₂ (· + ·) (congrArg₂ (· + ·) a b) c) d) ?_
  beta_reduce
  unfold lenE
  simp only [Fin.sum_univ_two]
  abel

theorem invLen_reads {s : FVec Ideal S31x31 .f32} (q : Fin 2 → Fin 2 → Fin 9 → ℝ) (y x : Fin 31)
    (hs : s (ix2 y x) = ((lenSq q : ℝ) : EReal)) : invLen s (ix2 y x) = ((1 / (Real.sqrt (lenSq q) + tiny) : ℝ) : EReal) := by
  show Ideal.div (Ideal.ofBits .f32 0x3F800000#32) (Ideal.sqrt (s (ix2 y x)) + Ideal.ofBits .f32 0x2EDBE6FF#32) = _
  rw [hs, f32_1, f32_tiny, sqrt_real _ (lenSq_nonneg q), ← EReal.coe_add, div_real _ _ (len_pos q).ne']

/-- A corner of a block, divided and cut. -/
theorem clip_reads {E : Fin 3 → EChan} {y x : Fin 31} (hb : BlockOf E y x (block h y x)) (u v : Fin 2) (hs : S9x32x32.Slices ![0, u.val, v.val] S9x31x31) (k : Fin 9) :
    clip (extractStridedSlice S9x31x31 ![0, u.val, v.val] h hs) (invLen (blockSq h)) (ix3 k y x)
      = ((cutE E y x u v k : ℝ) : EReal) := by
  have e1 : extractStridedSlice S9x31x31 ![0, u.val, v.val] h hs (ix3 k y x) = block h y x u v k := by
    refine extractStridedSlice_apply _ _ hs (ix3 k y x) (ix3 k (inBlock y u) (inBlock x v)) fun a => ?_
    match a with
    | ⟨0, _⟩ => exact (Nat.zero_add _).symm
    | ⟨1, _⟩ => exact Nat.add_comm _ _
    | ⟨2, _⟩ => exact Nat.add_comm _ _
  have e2 : broadcastTo S9x31x31 (shapeCast S1x31x31 (invLen (blockSq h)) shapeCasts_S31x31_S1x31x31) broadcasts_S1x31x31_S9x31x31 (ix3 k y x)
      = invLen (blockSq h) (ix2 y x) := by
    refine Eq.trans (broadcastTo_apply _ _ _ (ix3 (0 : Fin 1) y x) fun a => ?_) ?_
    · match a with
      | ⟨0, _⟩ => rfl
      | ⟨1, _⟩ => rfl
      | ⟨2, _⟩ => rfl
    · refine Eq.trans (shapeCast_addUnit_apply ![31, 31] (invLen (blockSq h)) _ (ix3 (0 : Fin 1) y x)) (congrArg _ ?_)
      funext a
      match a with
      | ⟨0, _⟩ => rfl
      | ⟨1, _⟩ => rfl
  show min (extractStridedSlice S9x31x31 ![0, u.val, v.val] h hs (ix3 k y x) *
    broadcastTo S9x31x31 (shapeCast S1x31x31 (invLen (blockSq h)) shapeCasts_S31x31_S1x31x31) broadcasts_S1x31x31_S9x31x31 (ix3 k y x))
    (Ideal.ofBits .f32 0x3E4CCCCD#32) = _
  rw [e1, e2]
  show min (block h y x u v k * Ideal.div (Ideal.ofBits .f32 0x3F800000#32) (Ideal.sqrt (blockSq h (ix2 y x)) + Ideal.ofBits .f32 0x2EDBE6FF#32)) _ = _
  rw [blockSq_apply, f32_1, f32_tiny, f32_cut]
  exact clip_mul hb u v k

theorem binSq_reads {t : FVec Ideal S9x31x31 .f32} {T : Fin 9 → ℝ} {y x : Fin 31} (ht : ∀ k, t (ix3 k y x) = ((T k : ℝ) : EReal)) :
    binSq t (ix2 y x) = ((∑ k : Fin 9, T k * T k : ℝ) : EReal) := by
  refine Eq.trans (Ideal.multiReduction_add_single (mulf t t) 0x00000000#32 reduces_S9x31x31_S31x31 (.inl rfl) rfl (ix2 y x)) ?_
  rw [← sum_real]
  refine Finset.sum_congr rfl fun k _ => ?_
  have e : reduces_S9x31x31_S31x31.lift (ix2 y x) k = ix3 (show Fin 9 from k) y x := by
    funext a
    match a with
    | ⟨0, _⟩ => rfl
    | ⟨1, _⟩ => rfl
    | ⟨2, _⟩ => rfl
  show t (reduces_S9x31x31_S31x31.lift (ix2 y x) k) * t (reduces_S9x31x31_S31x31.lift (ix2 y x) k) = _
  rw [e, ht]
  exact (EReal.coe_mul _ _).symm

section
variable {E : Fin 3 → EChan} {y x : Fin 31} (hb : BlockOf E y x (block h y x))
include hb

theorem corner00_reads (k : Fin 9) : corner00 h (ix3 k y x) = ((cutE E y x 0 0 k : ℝ) : EReal) :=
  clip_reads h hb 0 0 slices_S9x32x32_o0_0_0_S9x31x31 k
theorem corner01_reads (k : Fin 9) : corner01 h (ix3 k y x) = ((cutE E y x 0 1 k : ℝ) : EReal) :=
  clip_reads h hb 0 1 slices_S9x32x32_o0_0_1_S9x31x31 k
theorem corner10_reads (k : Fin 9) : corner10 h (ix3 k y x) = ((cutE E y x 1 0 k : ℝ) : EReal) :=
  clip_reads h hb 1 0 slices_S9x32x32_o0_1_0_S9x31x31 k
theorem corner11_reads (k : Fin 9) : corner11 h (ix3 k y x) = ((cutE E y x 1 1 k : ℝ) : EReal) :=
  clip_reads h hb 1 1 slices_S9x32x32_o0_1_1_S9x31x31 k

theorem cutSq_reads : cutSq h (ix2 y x) = ((lenSq (cutE E y x) : ℝ) : EReal) := by
  have a := binSq_reads fun k => corner00_reads h hb k
  have b := binSq_reads fun k => corner01_reads h hb k
  have c := binSq_reads fun k => corner10_reads h hb k
  have d := binSq_reads fun k => corner11_reads h hb k
  refine Eq.trans (congrArg₂ (· + ·) (congrArg₂ (· + ·) (congrArg₂ (· + ·) (congrArg₂ (· + ·) f32_0 a) b) c) d) ?_
  beta_reduce
  rw [← EReal.coe_add, ← EReal.coe_add, ← EReal.coe_add, ← EReal.coe_add]
  refine congrArg _ ?_
  unfold lenSq
  simp only [Fin.sum_univ_two]
  ring

end

/-- A corner of the stack of four. -/
theorem stack4_piece (c00 c01 c10 c11 : FVec Ideal S9x31x31 .f32) (q : ℕ) (hq : q < 4) (c : FVec Ideal S9x31x31 .f32)
    (hr : ([⟨S9x1x31x31, shapeCast S9x1x31x31 c00 shapeCasts_S9x31x31_S9x1x31x31⟩,
      ⟨S9x1x31x31, shapeCast S9x1x31x31 c01 shapeCasts_S9x31x31_S9x1x31x31⟩,
      ⟨S9x1x31x31, shapeCast S9x1x31x31 c10 shapeCasts_S9x31x31_S9x1x31x31⟩,
      ⟨S9x1x31x31, shapeCast S9x1x31x31 c11 shapeCasts_S9x31x31_S9x1x31x31⟩] : List ((s : Shape) × (s.Idx → Ideal .f32)))[q]'hq
        = ⟨S9x1x31x31, shapeCast S9x1x31x31 c shapeCasts_S9x31x31_S9x1x31x31⟩)
    (hp : (((([⟨S9x1x31x31, shapeCast S9x1x31x31 c00 shapeCasts_S9x31x31_S9x1x31x31⟩,
      ⟨S9x1x31x31, shapeCast S9x1x31x31 c01 shapeCasts_S9x31x31_S9x1x31x31⟩,
      ⟨S9x1x31x31, shapeCast S9x1x31x31 c10 shapeCasts_S9x31x31_S9x1x31x31⟩,
      ⟨S9x1x31x31, shapeCast S9x1x31x31 c11 shapeCasts_S9x31x31_S9x1x31x31⟩] : List ((s : Shape) × (s.Idx → Ideal .f32))).take q).map (·.1)).map
        fun s => if h : s.rank = S9x4x31x31.rank then s.size ((1 : Fin S9x4x31x31.rank).cast h.symm) else 0).sum = q)
    (k : Fin 9) (y x : Fin 31) :
    stack4 c00 c01 c10 c11 (ix4 k ⟨q, hq⟩ y x) = c (ix3 k y x) := by
  unfold stack4
  refine Eq.trans (concatenate_apply_piece (t := S9x4x31x31) 1 [⟨S9x1x31x31, shapeCast S9x1x31x31 c00 shapeCasts_S9x31x31_S9x1x31x31⟩,
      ⟨S9x1x31x31, shapeCast S9x1x31x31 c01 shapeCasts_S9x31x31_S9x1x31x31⟩,
      ⟨S9x1x31x31, shapeCast S9x1x31x31 c10 shapeCasts_S9x31x31_S9x1x31x31⟩,
      ⟨S9x1x31x31, shapeCast S9x1x31x31 c11 shapeCasts_S9x31x31_S9x1x31x31⟩] _ (ix4 k ⟨q, hq⟩ y x) q hq S9x1x31x31 _ hr rfl q hp
      (ix4 k (0 : Fin 1) y x) ?_ rfl) ?_
  · intro b hb
    match b with
    | ⟨0, _⟩ => rfl
    | ⟨1, _⟩ => exact absurd rfl hb
    | ⟨2, _⟩ => rfl
    | ⟨3, _⟩ => rfl
  · refine shapeCast_apply _ _ _ (ix3 k y x) ?_
    refine Eq.trans (Shape.rowMajor_val_three _) (Eq.trans ?_ (Shape.rowMajor_val_four _).symm)
    show (k.val * 31 + y.val) * 31 + x.val = ((k.val * 1 + 0) * 31 + y.val) * 31 + x.val
    ring

theorem stack4_reads {E : Fin 3 → EChan} {y x : Fin 31} (hb : BlockOf E y x (block h y x)) (u v : Fin 2) (k : Fin 9) (q : Fin 4) (e : q.val = 2 * u.val + v.val) :
    stack4 (corner00 h) (corner01 h) (corner10 h) (corner11 h) (ix4 k q y x) = ((cutE E y x u v k : ℝ) : EReal) := by
  match u, v, q, e with
  | ⟨0, _⟩, ⟨0, _⟩, ⟨0, _⟩, _ => exact (stack4_piece _ _ _ _ 0 (by decide) _ rfl rfl k y x).trans (corner00_reads h hb k)
  | ⟨0, _⟩, ⟨1, _⟩, ⟨1, _⟩, _ => exact (stack4_piece _ _ _ _ 1 (by decide) _ rfl rfl k y x).trans (corner01_reads h hb k)
  | ⟨1, _⟩, ⟨0, _⟩, ⟨2, _⟩, _ => exact (stack4_piece _ _ _ _ 2 (by decide) _ rfl rfl k y x).trans (corner10_reads h hb k)
  | ⟨1, _⟩, ⟨1, _⟩, ⟨3, _⟩, _ => exact (stack4_piece _ _ _ _ 3 (by decide) _ rfl rfl k y x).trans (corner11_reads h hb k)

/-- An entry of the kernel's blocks. -/
theorem blocks_reads {E : Fin 3 → EChan} {y x : Fin 31} (hb : BlockOf E y x (block h y x)) (u v : Fin 2) (k : Fin 9) (p : Fin 36) (e : p.val = k.val * 4 + (2 * u.val + v.val)) :
    blocks h (ix4 (0 : Fin 1) p y x) = ((hogE E y x u v k : ℝ) : EReal) := by
  let q : Fin 4 := ⟨2 * u.val + v.val, by omega⟩
  unfold blocks
  refine Eq.trans (shapeCast_addUnit_apply ![36, 31, 31] _ _ (ix4 (0 : Fin 1) p y x)) ?_
  refine Eq.trans (shapeCast_apply _ _ _ (ix4 k q y x) ?_) ?_
  · refine Eq.trans (Shape.rowMajor_val_four _) (Eq.trans ?_ (Shape.rowMajor_val_three _).symm)
    show ((k.val * 4 + (2 * u.val + v.val)) * 31 + y.val) * 31 + x.val = (p.val * 31 + y.val) * 31 + x.val
    rw [e]
  have e2 : broadcastTo S9x4x31x31 (shapeCast S1x1x31x31 (invLen (cutSq h)) shapeCasts_S31x31_S1x1x31x31) broadcasts_S1x1x31x31_S9x4x31x31 (ix4 k q y x)
      = invLen (cutSq h) (ix2 y x) := by
    refine Eq.trans (broadcastTo_apply _ _ _ (ix4 (0 : Fin 1) (0 : Fin 1) y x) fun a => ?_) ?_
    · match a with
      | ⟨0, _⟩ => rfl
      | ⟨1, _⟩ => rfl
      | ⟨2, _⟩ => rfl
      | ⟨3, _⟩ => rfl
    · refine shapeCast_apply _ _ _ (ix2 y x) ?_
      refine Eq.trans (Shape.rowMajor_val_two _) (Eq.trans ?_ (Shape.rowMajor_val_four _).symm)
      show y.val * 31 + x.val = ((0 * 1 + 0) * 31 + y.val) * 31 + x.val
      ring
  show stack4 (corner00 h) (corner01 h) (corner10 h) (corner11 h) (ix4 k q y x) *
    broadcastTo S9x4x31x31 (shapeCast S1x1x31x31 (invLen (cutSq h)) shapeCasts_S31x31_S1x1x31x31) broadcasts_S1x1x31x31_S9x4x31x31 (ix4 k q y x) = _
  rw [stack4_reads h hb u v k q rfl, e2, invLen_reads _ y x (cutSq_reads h hb), ← EReal.coe_mul, mul_one_div]
  rfl

end

/-- What the kernel stores for one image whose pixels are the numbers d. -/
theorem image_reads (v : Vec Ideal S1x3x512x512 .f32) (d : Fin 3 → EChan)
    (hv : ∀ c h w, v (ix4 (0 : Fin 1) c h w) = d c h w) (y x : Fin 31) (u w : Fin 2) (k : Fin 9) (p : Fin 36)
    (e : p.val = k.val * 4 + (2 * u.val + w.val)) :
    image v (ix4 (0 : Fin 1) p y x) = ((hogE d y x u w k : ℝ) : EReal) := by
  have hp : ∀ c h w, planes v (ix3 c h w) = d c h w := fun c h w => by
    refine Eq.trans (shapeCast_dropUnit_apply ![3, 512, 512] v _ (ix3 c h w)) (Eq.trans (congrArg v ?_) (hv c h w))
    funext a
    match a with
    | ⟨0, _⟩ => rfl
    | ⟨1, _⟩ => rfl
    | ⟨2, _⟩ => rfl
    | ⟨3, _⟩ => rfl
  have pl : ∀ (c : Fin 3) (hs : S3x512x512.Slices ![c.val, 0, 0] S1x512x512) (h w : Fin 512),
      shapeCast S512x512 (extractStridedSlice S1x512x512 ![c.val, 0, 0] (planes v) hs) shapeCasts_S1x512x512_S512x512 (ix2 h w)
        = d c h w := fun c hs h w => by
    refine Eq.trans (shapeCast_dropUnit_apply ![512, 512] _ _ (ix2 h w)) (Eq.trans (extractStridedSlice_apply _ _ hs _ (ix3 c h w) fun a => ?_) (hp c h w))
    match a with
    | ⟨0, _⟩ => rfl
    | ⟨1, _⟩ => exact (Nat.zero_add _).symm
    | ⟨2, _⟩ => exact (Nat.zero_add _).symm
  have h0 : HogPlanes.Holds (plane0 (planes v)) (d 0) := pl 0 slices_S3x512x512_o0_0_0_S1x512x512
  have h1 : HogPlanes.Holds (plane1 (planes v)) (d 1) := pl 1 slices_S3x512x512_o1_0_0_S1x512x512
  have h2 : HogPlanes.Holds (plane2 (planes v)) (d 2) := pl 2 slices_S3x512x512_o2_0_0_S1x512x512
  have hc : CellsOf d (fun k i j => imageHist (plane0 (planes v)) (plane1 (planes v)) (plane2 (planes v)) (ix3 k i j)) :=
    cells_of_votes (HogCells.votes_of h0 h1 h2) fun k i j => HogCells.hist_apply _ _ _ k i j
  exact blocks_reads _ (block_of_cells hc y x) u w k p e

end Cert.HogBlocks
-- ==== Proof.ImageEq.lean ====
/- The four stores of the kernel's body are the one function `image` of the four images of the block. -/
module

public import proofs.«01_k».proof.Proof.Image

@[expose] public section

noncomputable section

namespace Cert.HogImage

open Idealize.ShloMosaic Cert.KernelIdeal Cert.KernelIdeal.Gen

set_option maxRecDepth 65536 in
set_option maxHeartbeats 1000000 in
/-- What the body stores for image 0 of the block. -/
theorem piece0 (x0 : Vec Ideal S4x3x512x512 .f32) :
    k0_pay58 (k0_pay51 (k0_pay255 x0) (k0_pay254 x0) (k0_pay256 x0) (k0_pay257 x0) (k0_pay258 x0)) (k0_pay52 (k0_pay255 x0) (k0_pay254 x0) (k0_pay256 x0) (k0_pay257 x0) (k0_pay258 x0)) (k0_pay53 (k0_pay255 x0) (k0_pay254 x0) (k0_pay256 x0) (k0_pay257 x0) (k0_pay258 x0)) (k0_pay54 (k0_pay255 x0) (k0_pay254 x0) (k0_pay256 x0) (k0_pay257 x0) (k0_pay258 x0)) (k0_pay55 (k0_pay255 x0) (k0_pay254 x0) (k0_pay256 x0) (k0_pay257 x0) (k0_pay258 x0)) (k0_pay56 (k0_pay255 x0) (k0_pay254 x0) (k0_pay256 x0) (k0_pay257 x0) (k0_pay258 x0)) (k0_pay57 (k0_pay255 x0) (k0_pay254 x0) (k0_pay256 x0) (k0_pay257 x0) (k0_pay258 x0)) = image (View.ld x0 r0_0) := by
  simp -implicitDefEqProofs only [image, imageHist, histOf, bestX, bestY, bestN, best, right_fold, left_fold, up_fold, down_fold, diff_fold, smooth_fold, gradX_fold, gradY_fold, sq_fold, planes_fold, plane0_fold, plane1_fold,
    plane2_fold, first_fold, second_fold, pick_fold, slope_fold, poly_fold, acute_fold, turned_fold, coord_fold, bin_fold, high_fold, low_fold,
    none16_fold, cellRows_fold, acrossR_fold, downR_fold, acrossC_fold, downC_fold, cellCols_fold, mask_fold, mask_fold₀, mask_fold₁, rowSum_fold, rows_fold, stack9_fold, stack4_fold, hist_fold, invLen_fold, cellSq_fold, blockSq_fold, clip_fold, binSq_fold,
    corner00_fold, corner01_fold, corner10_fold, corner11_fold, cutSq_fold, blocks_fold,
    k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay22, k0_pay23, k0_pay24,
    k0_pay25, k0_pay26, k0_pay27, k0_pay28, k0_pay29, k0_pay30, k0_pay31, k0_pay32, k0_pay33, k0_pay34, k0_pay35, k0_pay36,
    k0_pay37, k0_pay38, k0_pay39, k0_pay40, k0_pay41, k0_pay42, k0_pay43, k0_pay44, k0_pay45, k0_pay46, k0_pay47, k0_pay48,
    k0_pay49, k0_pay50, k0_pay51, k0_pay52, k0_pay53, k0_pay54, k0_pay55, k0_pay56, k0_pay57, k0_pay58, k0_pay59, k0_pay60,
    k0_pay61, k0_pay62, k0_pay63, k0_pay64, k0_pay65, k0_pay66, k0_pay67, k0_pay68, k0_pay69, k0_pay70, k0_pay71, k0_pay72,
    k0_pay73, k0_pay74, k0_pay75, k0_pay76, k0_pay77, k0_pay78, k0_pay79, k0_pay80, k0_pay81, k0_pay82, k0_pay83, k0_pay84,
    k0_pay85, k0_pay86, k0_pay87, k0_pay88, k0_pay89, k0_pay90, k0_pay91, k0_pay92, k0_pay93, k0_pay94, k0_pay95, k0_pay96,
    k0_pay97, k0_pay98, k0_pay99, k0_pay100, k0_pay101, k0_pay102, k0_pay103, k0_pay104, k0_pay105, k0_pay106, k0_pay107, k0_pay108,
    k0_pay109, k0_pay110, k0_pay111, k0_pay112, k0_pay113, k0_pay114, k0_pay115, k0_pay116, k0_pay117, k0_pay118, k0_pay119, k0_pay120,
    k0_pay121, k0_pay122, k0_pay123, k0_pay124, k0_pay125, k0_pay126, k0_pay127, k0_pay128, k0_pay129, k0_pay130, k0_pay131, k0_pay132,
    k0_pay133, k0_pay134, k0_pay135, k0_pay136, k0_pay137, k0_pay138, k0_pay139, k0_pay140, k0_pay141, k0_pay142, k0_pay143, k0_pay144,
    k0_pay145, k0_pay146, k0_pay147, k0_pay148, k0_pay149, k0_pay150, k0_pay151, k0_pay152, k0_pay153, k0_pay154, k0_pay155, k0_pay156,
    k0_pay157, k0_pay158, k0_pay159, k0_pay160, k0_pay161, k0_pay162, k0_pay163, k0_pay164, k0_pay165, k0_pay166, k0_pay167, k0_pay168,
    k0_pay169, k0_pay170, k0_pay171, k0_pay172, k0_pay173, k0_pay174, k0_pay175, k0_pay176, k0_pay177, k0_pay178, k0_pay179, k0_pay180,
    k0_pay181, k0_pay182, k0_pay183, k0_pay184, k0_pay185, k0_pay186, k0_pay187, k0_pay188, k0_pay189, k0_pay190, k0_pay191, k0_pay192,
    k0_pay193, k0_pay194, k0_pay195, k0_pay196, k0_pay197, k0_pay198, k0_pay199, k0_pay200, k0_pay201, k0_pay202, k0_pay203, k0_pay204,
    k0_pay205, k0_pay206, k0_pay207, k0_pay208, k0_pay209, k0_pay210, k0_pay211, k0_pay212, k0_pay213, k0_pay214, k0_pay215, k0_pay216,
    k0_pay217, k0_pay218, k0_pay219, k0_pay220, k0_pay221, k0_pay222, k0_pay223, k0_pay224, k0_pay225, k0_pay226, k0_pay227, k0_pay228,
    k0_pay229, k0_pay230, k0_pay231, k0_pay232, k0_pay233, k0_pay234, k0_pay235, k0_pay236, k0_pay237, k0_pay238, k0_pay239, k0_pay240,
    k0_pay241, k0_pay242, k0_pay243, k0_pay244, k0_pay245, k0_pay246, k0_pay247, k0_pay248, k0_pay249, k0_pay250, k0_pay251, k0_pay252,
    k0_pay253, k0_pay254, k0_pay255, k0_pay256, k0_pay257, k0_pay258, k0_pay259, k0_pay260, k0_pay261, k0_pay262, k0_pay263, k0_pay264,
    k0_pay265, k0_pay266, k0_pay267, k0_pay268, k0_pay269, k0_pay270, k0_pay271, k0_pay272, k0_pay273, k0_pay274, k0_pay275, k0_pay276,
    k0_pay277, k0_pay278, k0_pay279, k0_pay280, k0_pay281, k0_pay282, k0_pay283, k0_pay284, k0_pay285, k0_pay286, k0_pay287, k0_pay288,
    k0_pay289, k0_pay290, k0_pay291, k0_pay292, k0_pay293, k0_pay294, k0_pay295, k0_pay296, k0_pay297, k0_pay298, k0_pay299, k0_pay300,
    k0_pay301, k0_pay302, k0_pay303, k0_pay304, k0_pay305, k0_pay306, k0_pay307, k0_pay308, k0_pay309, k0_pay310, k0_pay311, k0_pay312,
    k0_pay313, k0_pay314, k0_pay315, k0_pay316, k0_pay317, k0_pay318, k0_pay319, k0_pay320, k0_pay321, k0_pay322, k0_pay323, k0_pay324,
    k0_pay325, k0_pay326, k0_pay327, k0_pay328, k0_pay329, k0_pay330, k0_pay331, k0_pay332, k0_pay333, k0_pay334, k0_pay335, k0_pay336,
    k0_pay337, k0_pay338, k0_pay339, k0_pay340, k0_pay341, k0_pay342, k0_pay343, k0_pay344, k0_pay345, k0_pay346, k0_pay347, k0_pay348,
    k0_pay349, k0_pay350, k0_pay351, k0_pay352]

set_option maxRecDepth 65536 in
set_option maxHeartbeats 1000000 in
/-- What the body stores for image 1 of the block. -/
theorem piece1 (x0 : Vec Ideal S4x3x512x512 .f32) :
    k0_pay124 (k0_pay119 (k0_pay300 x0) (k0_pay301 x0)) (k0_pay120 (k0_pay300 x0) (k0_pay301 x0)) (k0_pay121 (k0_pay300 x0) (k0_pay301 x0)) (k0_pay122 (k0_pay300 x0) (k0_pay301 x0)) (k0_pay123 (k0_pay300 x0) (k0_pay301 x0)) = image (View.ld x0 r0_2) := by
  simp -implicitDefEqProofs only [image, imageHist, histOf, bestX, bestY, bestN, best, right_fold, left_fold, up_fold, down_fold, diff_fold, smooth_fold, gradX_fold, gradY_fold, sq_fold, planes_fold, plane0_fold, plane1_fold,
    plane2_fold, first_fold, second_fold, pick_fold, slope_fold, poly_fold, acute_fold, turned_fold, coord_fold, bin_fold, high_fold, low_fold,
    none16_fold, cellRows_fold, acrossR_fold, downR_fold, acrossC_fold, downC_fold, cellCols_fold, mask_fold, mask_fold₀, mask_fold₁, rowSum_fold, rows_fold, stack9_fold, stack4_fold, hist_fold, invLen_fold, cellSq_fold, blockSq_fold, clip_fold, binSq_fold,
    corner00_fold, corner01_fold, corner10_fold, corner11_fold, cutSq_fold, blocks_fold,
    k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay22, k0_pay23, k0_pay24,
    k0_pay25, k0_pay26, k0_pay27, k0_pay28, k0_pay29, k0_pay30, k0_pay31, k0_pay32, k0_pay33, k0_pay34, k0_pay35, k0_pay36,
    k0_pay37, k0_pay38, k0_pay39, k0_pay40, k0_pay41, k0_pay42, k0_pay43, k0_pay44, k0_pay45, k0_pay46, k0_pay47, k0_pay48,
    k0_pay49, k0_pay50, k0_pay51, k0_pay52, k0_pay53, k0_pay54, k0_pay55, k0_pay56, k0_pay57, k0_pay58, k0_pay59, k0_pay60,
    k0_pay61, k0_pay62, k0_pay63, k0_pay64, k0_pay65, k0_pay66, k0_pay67, k0_pay68, k0_pay69, k0_pay70, k0_pay71, k0_pay72,
    k0_pay73, k0_pay74, k0_pay75, k0_pay76, k0_pay77, k0_pay78, k0_pay79, k0_pay80, k0_pay81, k0_pay82, k0_pay83, k0_pay84,
    k0_pay85, k0_pay86, k0_pay87, k0_pay88, k0_pay89, k0_pay90, k0_pay91, k0_pay92, k0_pay93, k0_pay94, k0_pay95, k0_pay96,
    k0_pay97, k0_pay98, k0_pay99, k0_pay100, k0_pay101, k0_pay102, k0_pay103, k0_pay104, k0_pay105, k0_pay106, k0_pay107, k0_pay108,
    k0_pay109, k0_pay110, k0_pay111, k0_pay112, k0_pay113, k0_pay114, k0_pay115, k0_pay116, k0_pay117, k0_pay118, k0_pay119, k0_pay120,
    k0_pay121, k0_pay122, k0_pay123, k0_pay124, k0_pay125, k0_pay126, k0_pay127, k0_pay128, k0_pay129, k0_pay130, k0_pay131, k0_pay132,
    k0_pay133, k0_pay134, k0_pay135, k0_pay136, k0_pay137, k0_pay138, k0_pay139, k0_pay140, k0_pay141, k0_pay142, k0_pay143, k0_pay144,
    k0_pay145, k0_pay146, k0_pay147, k0_pay148, k0_pay149, k0_pay150, k0_pay151, k0_pay152, k0_pay153, k0_pay154, k0_pay155, k0_pay156,
    k0_pay157, k0_pay158, k0_pay159, k0_pay160, k0_pay161, k0_pay162, k0_pay163, k0_pay164, k0_pay165, k0_pay166, k0_pay167, k0_pay168,
    k0_pay169, k0_pay170, k0_pay171, k0_pay172, k0_pay173, k0_pay174, k0_pay175, k0_pay176, k0_pay177, k0_pay178, k0_pay179, k0_pay180,
    k0_pay181, k0_pay182, k0_pay183, k0_pay184, k0_pay185, k0_pay186, k0_pay187, k0_pay188, k0_pay189, k0_pay190, k0_pay191, k0_pay192,
    k0_pay193, k0_pay194, k0_pay195, k0_pay196, k0_pay197, k0_pay198, k0_pay199, k0_pay200, k0_pay201, k0_pay202, k0_pay203, k0_pay204,
    k0_pay205, k0_pay206, k0_pay207, k0_pay208, k0_pay209, k0_pay210, k0_pay211, k0_pay212, k0_pay213, k0_pay214, k0_pay215, k0_pay216,
    k0_pay217, k0_pay218, k0_pay219, k0_pay220, k0_pay221, k0_pay222, k0_pay223, k0_pay224, k0_pay225, k0_pay226, k0_pay227, k0_pay228,
    k0_pay229, k0_pay230, k0_pay231, k0_pay232, k0_pay233, k0_pay234, k0_pay235, k0_pay236, k0_pay237, k0_pay238, k0_pay239, k0_pay240,
    k0_pay241, k0_pay242, k0_pay243, k0_pay244, k0_pay245, k0_pay246, k0_pay247, k0_pay248, k0_pay249, k0_pay250, k0_pay251, k0_pay252,
    k0_pay253, k0_pay254, k0_pay255, k0_pay256, k0_pay257, k0_pay258, k0_pay259, k0_pay260, k0_pay261, k0_pay262, k0_pay263, k0_pay264,
    k0_pay265, k0_pay266, k0_pay267, k0_pay268, k0_pay269, k0_pay270, k0_pay271, k0_pay272, k0_pay273, k0_pay274, k0_pay275, k0_pay276,
    k0_pay277, k0_pay278, k0_pay279, k0_pay280, k0_pay281, k0_pay282, k0_pay283, k0_pay284, k0_pay285, k0_pay286, k0_pay287, k0_pay288,
    k0_pay289, k0_pay290, k0_pay291, k0_pay292, k0_pay293, k0_pay294, k0_pay295, k0_pay296, k0_pay297, k0_pay298, k0_pay299, k0_pay300,
    k0_pay301, k0_pay302, k0_pay303, k0_pay304, k0_pay305, k0_pay306, k0_pay307, k0_pay308, k0_pay309, k0_pay310, k0_pay311, k0_pay312,
    k0_pay313, k0_pay314, k0_pay315, k0_pay316, k0_pay317, k0_pay318, k0_pay319, k0_pay320, k0_pay321, k0_pay322, k0_pay323, k0_pay324,
    k0_pay325, k0_pay326, k0_pay327, k0_pay328, k0_pay329, k0_pay330, k0_pay331, k0_pay332, k0_pay333, k0_pay334, k0_pay335, k0_pay336,
    k0_pay337, k0_pay338, k0_pay339, k0_pay340, k0_pay341, k0_pay342, k0_pay343, k0_pay344, k0_pay345, k0_pay346, k0_pay347, k0_pay348,
    k0_pay349, k0_pay350, k0_pay351, k0_pay352]

set_option maxRecDepth 65536 in
set_option maxHeartbeats 1000000 in
/-- What the body stores for image 2 of the block. -/
theorem piece2 (x0 : Vec Ideal S4x3x512x512 .f32) :
    k0_pay173 (k0_pay167 (k0_pay323 x0) (k0_pay321 x0) (k0_pay322 x0) 16#32 (k0_pay324 x0) (k0_pay325 x0) (Scalar.extui (Scalar.cmpi .sgt 16#32 0#32)) (Scalar.extui (Scalar.cmpi .slt 16#32 0#32))) (k0_pay168 (k0_pay323 x0) (k0_pay321 x0) (k0_pay322 x0) 16#32 (k0_pay324 x0) (k0_pay325 x0) (Scalar.extui (Scalar.cmpi .sgt 16#32 0#32)) (Scalar.extui (Scalar.cmpi .slt 16#32 0#32))) (k0_pay169 (k0_pay323 x0) (k0_pay321 x0) (k0_pay322 x0) 16#32 (k0_pay324 x0) (k0_pay325 x0) (Scalar.extui (Scalar.cmpi .sgt 16#32 0#32)) (Scalar.extui (Scalar.cmpi .slt 16#32 0#32))) (k0_pay170 (k0_pay323 x0) (k0_pay321 x0) (k0_pay322 x0) 16#32 (k0_pay324 x0) (k0_pay325 x0) (Scalar.extui (Scalar.cmpi .sgt 16#32 0#32)) (Scalar.extui (Scalar.cmpi .slt 16#32 0#32))) (k0_pay171 (k0_pay323 x0) (k0_pay321 x0) (k0_pay322 x0) 16#32 (k0_pay324 x0) (k0_pay325 x0) (Scalar.extui (Scalar.cmpi .sgt 16#32 0#32)) (Scalar.extui (Scalar.cmpi .slt 16#32 0#32))) (k0_pay172 (k0_pay323 x0) (k0_pay321 x0) (k0_pay322 x0) 16#32 (k0_pay324 x0) (k0_pay325 x0) (Scalar.extui (Scalar.cmpi .sgt 16#32 0#32)) (Scalar.extui (Scalar.cmpi .slt 16#32 0#32))) = image (View.ld x0 r0_4) := by
  simp -implicitDefEqProofs only [image, imageHist, histOf, bestX, bestY, bestN, best, right_fold, left_fold, up_fold, down_fold, diff_fold, smooth_fold, gradX_fold, gradY_fold, sq_fold, planes_fold, plane0_fold, plane1_fold,
    plane2_fold, first_fold, second_fold, pick_fold, slope_fold, poly_fold, acute_fold, turned_fold, coord_fold, bin_fold, high_fold, low_fold,
    none16_fold, cellRows_fold, acrossR_fold, downR_fold, acrossC_fold, downC_fold, cellCols_fold, mask_fold, mask_fold₀, mask_fold₁, rowSum_fold, rows_fold, stack9_fold, stack4_fold, hist_fold, invLen_fold, cellSq_fold, blockSq_fold, clip_fold, binSq_fold,
    corner00_fold, corner01_fold, corner10_fold, corner11_fold, cutSq_fold, blocks_fold,
    k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay22, k0_pay23, k0_pay24,
    k0_pay25, k0_pay26, k0_pay27, k0_pay28, k0_pay29, k0_pay30, k0_pay31, k0_pay32, k0_pay33, k0_pay34, k0_pay35, k0_pay36,
    k0_pay37, k0_pay38, k0_pay39, k0_pay40, k0_pay41, k0_pay42, k0_pay43, k0_pay44, k0_pay45, k0_pay46, k0_pay47, k0_pay48,
    k0_pay49, k0_pay50, k0_pay51, k0_pay52, k0_pay53, k0_pay54, k0_pay55, k0_pay56, k0_pay57, k0_pay58, k0_pay59, k0_pay60,
    k0_pay61, k0_pay62, k0_pay63, k0_pay64, k0_pay65, k0_pay66, k0_pay67, k0_pay68, k0_pay69, k0_pay70, k0_pay71, k0_pay72,
    k0_pay73, k0_pay74, k0_pay75, k0_pay76, k0_pay77, k0_pay78, k0_pay79, k0_pay80, k0_pay81, k0_pay82, k0_pay83, k0_pay84,
    k0_pay85, k0_pay86, k0_pay87, k0_pay88, k0_pay89, k0_pay90, k0_pay91, k0_pay92, k0_pay93, k0_pay94, k0_pay95, k0_pay96,
    k0_pay97, k0_pay98, k0_pay99, k0_pay100, k0_pay101, k0_pay102, k0_pay103, k0_pay104, k0_pay105, k0_pay106, k0_pay107, k0_pay108,
    k0_pay109, k0_pay110, k0_pay111, k0_pay112, k0_pay113, k0_pay114, k0_pay115, k0_pay116, k0_pay117, k0_pay118, k0_pay119, k0_pay120,
    k0_pay121, k0_pay122, k0_pay123, k0_pay124, k0_pay125, k0_pay126, k0_pay127, k0_pay128, k0_pay129, k0_pay130, k0_pay131, k0_pay132,
    k0_pay133, k0_pay134, k0_pay135, k0_pay136, k0_pay137, k0_pay138, k0_pay139, k0_pay140, k0_pay141, k0_pay142, k0_pay143, k0_pay144,
    k0_pay145, k0_pay146, k0_pay147, k0_pay148, k0_pay149, k0_pay150, k0_pay151, k0_pay152, k0_pay153, k0_pay154, k0_pay155, k0_pay156,
    k0_pay157, k0_pay158, k0_pay159, k0_pay160, k0_pay161, k0_pay162, k0_pay163, k0_pay164, k0_pay165, k0_pay166, k0_pay167, k0_pay168,
    k0_pay169, k0_pay170, k0_pay171, k0_pay172, k0_pay173, k0_pay174, k0_pay175, k0_pay176, k0_pay177, k0_pay178, k0_pay179, k0_pay180,
    k0_pay181, k0_pay182, k0_pay183, k0_pay184, k0_pay185, k0_pay186, k0_pay187, k0_pay188, k0_pay189, k0_pay190, k0_pay191, k0_pay192,
    k0_pay193, k0_pay194, k0_pay195, k0_pay196, k0_pay197, k0_pay198, k0_pay199, k0_pay200, k0_pay201, k0_pay202, k0_pay203, k0_pay204,
    k0_pay205, k0_pay206, k0_pay207, k0_pay208, k0_pay209, k0_pay210, k0_pay211, k0_pay212, k0_pay213, k0_pay214, k0_pay215, k0_pay216,
    k0_pay217, k0_pay218, k0_pay219, k0_pay220, k0_pay221, k0_pay222, k0_pay223, k0_pay224, k0_pay225, k0_pay226, k0_pay227, k0_pay228,
    k0_pay229, k0_pay230, k0_pay231, k0_pay232, k0_pay233, k0_pay234, k0_pay235, k0_pay236, k0_pay237, k0_pay238, k0_pay239, k0_pay240,
    k0_pay241, k0_pay242, k0_pay243, k0_pay244, k0_pay245, k0_pay246, k0_pay247, k0_pay248, k0_pay249, k0_pay250, k0_pay251, k0_pay252,
    k0_pay253, k0_pay254, k0_pay255, k0_pay256, k0_pay257, k0_pay258, k0_pay259, k0_pay260, k0_pay261, k0_pay262, k0_pay263, k0_pay264,
    k0_pay265, k0_pay266, k0_pay267, k0_pay268, k0_pay269, k0_pay270, k0_pay271, k0_pay272, k0_pay273, k0_pay274, k0_pay275, k0_pay276,
    k0_pay277, k0_pay278, k0_pay279, k0_pay280, k0_pay281, k0_pay282, k0_pay283, k0_pay284, k0_pay285, k0_pay286, k0_pay287, k0_pay288,
    k0_pay289, k0_pay290, k0_pay291, k0_pay292, k0_pay293, k0_pay294, k0_pay295, k0_pay296, k0_pay297, k0_pay298, k0_pay299, k0_pay300,
    k0_pay301, k0_pay302, k0_pay303, k0_pay304, k0_pay305, k0_pay306, k0_pay307, k0_pay308, k0_pay309, k0_pay310, k0_pay311, k0_pay312,
    k0_pay313, k0_pay314, k0_pay315, k0_pay316, k0_pay317, k0_pay318, k0_pay319, k0_pay320, k0_pay321, k0_pay322, k0_pay323, k0_pay324,
    k0_pay325, k0_pay326, k0_pay327, k0_pay328, k0_pay329, k0_pay330, k0_pay331, k0_pay332, k0_pay333, k0_pay334, k0_pay335, k0_pay336,
    k0_pay337, k0_pay338, k0_pay339, k0_pay340, k0_pay341, k0_pay342, k0_pay343, k0_pay344, k0_pay345, k0_pay346, k0_pay347, k0_pay348,
    k0_pay349, k0_pay350, k0_pay351, k0_pay352]

set_option maxRecDepth 65536 in
set_option maxHeartbeats 1000000 in
/-- What the body stores for image 3 of the block. -/
theorem piece3 (x0 : Vec Ideal S4x3x512x512 .f32) :
    k0_pay1 (k0_pay221 (k0_pay351 x0) (k0_pay352 x0)) (k0_pay222 (k0_pay351 x0) (k0_pay352 x0)) (k0_pay223 (k0_pay351 x0) (k0_pay352 x0)) (k0_pay224 (k0_pay351 x0) (k0_pay352 x0)) (k0_pay225 (k0_pay351 x0) (k0_pay352 x0)) (k0_pay226 (k0_pay351 x0) (k0_pay352 x0)) = image (View.ld x0 r0_6) := by
  simp -implicitDefEqProofs only [image, imageHist, histOf, bestX, bestY, bestN, best, right_fold, left_fold, up_fold, down_fold, diff_fold, smooth_fold, gradX_fold, gradY_fold, sq_fold, planes_fold, plane0_fold, plane1_fold,
    plane2_fold, first_fold, second_fold, pick_fold, slope_fold, poly_fold, acute_fold, turned_fold, coord_fold, bin_fold, high_fold, low_fold,
    none16_fold, cellRows_fold, acrossR_fold, downR_fold, acrossC_fold, downC_fold, cellCols_fold, mask_fold, mask_fold₀, mask_fold₁, rowSum_fold, rows_fold, stack9_fold, stack4_fold, hist_fold, invLen_fold, cellSq_fold, blockSq_fold, clip_fold, binSq_fold,
    corner00_fold, corner01_fold, corner10_fold, corner11_fold, cutSq_fold, blocks_fold,
    k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay22, k0_pay23, k0_pay24,
    k0_pay25, k0_pay26, k0_pay27, k0_pay28, k0_pay29, k0_pay30, k0_pay31, k0_pay32, k0_pay33, k0_pay34, k0_pay35, k0_pay36,
    k0_pay37, k0_pay38, k0_pay39, k0_pay40, k0_pay41, k0_pay42, k0_pay43, k0_pay44, k0_pay45, k0_pay46, k0_pay47, k0_pay48,
    k0_pay49, k0_pay50, k0_pay51, k0_pay52, k0_pay53, k0_pay54, k0_pay55, k0_pay56, k0_pay57, k0_pay58, k0_pay59, k0_pay60,
    k0_pay61, k0_pay62, k0_pay63, k0_pay64, k0_pay65, k0_pay66, k0_pay67, k0_pay68, k0_pay69, k0_pay70, k0_pay71, k0_pay72,
    k0_pay73, k0_pay74, k0_pay75, k0_pay76, k0_pay77, k0_pay78, k0_pay79, k0_pay80, k0_pay81, k0_pay82, k0_pay83, k0_pay84,
    k0_pay85, k0_pay86, k0_pay87, k0_pay88, k0_pay89, k0_pay90, k0_pay91, k0_pay92, k0_pay93, k0_pay94, k0_pay95, k0_pay96,
    k0_pay97, k0_pay98, k0_pay99, k0_pay100, k0_pay101, k0_pay102, k0_pay103, k0_pay104, k0_pay105, k0_pay106, k0_pay107, k0_pay108,
    k0_pay109, k0_pay110, k0_pay111, k0_pay112, k0_pay113, k0_pay114, k0_pay115, k0_pay116, k0_pay117, k0_pay118, k0_pay119, k0_pay120,
    k0_pay121, k0_pay122, k0_pay123, k0_pay124, k0_pay125, k0_pay126, k0_pay127, k0_pay128, k0_pay129, k0_pay130, k0_pay131, k0_pay132,
    k0_pay133, k0_pay134, k0_pay135, k0_pay136, k0_pay137, k0_pay138, k0_pay139, k0_pay140, k0_pay141, k0_pay142, k0_pay143, k0_pay144,
    k0_pay145, k0_pay146, k0_pay147, k0_pay148, k0_pay149, k0_pay150, k0_pay151, k0_pay152, k0_pay153, k0_pay154, k0_pay155, k0_pay156,
    k0_pay157, k0_pay158, k0_pay159, k0_pay160, k0_pay161, k0_pay162, k0_pay163, k0_pay164, k0_pay165, k0_pay166, k0_pay167, k0_pay168,
    k0_pay169, k0_pay170, k0_pay171, k0_pay172, k0_pay173, k0_pay174, k0_pay175, k0_pay176, k0_pay177, k0_pay178, k0_pay179, k0_pay180,
    k0_pay181, k0_pay182, k0_pay183, k0_pay184, k0_pay185, k0_pay186, k0_pay187, k0_pay188, k0_pay189, k0_pay190, k0_pay191, k0_pay192,
    k0_pay193, k0_pay194, k0_pay195, k0_pay196, k0_pay197, k0_pay198, k0_pay199, k0_pay200, k0_pay201, k0_pay202, k0_pay203, k0_pay204,
    k0_pay205, k0_pay206, k0_pay207, k0_pay208, k0_pay209, k0_pay210, k0_pay211, k0_pay212, k0_pay213, k0_pay214, k0_pay215, k0_pay216,
    k0_pay217, k0_pay218, k0_pay219, k0_pay220, k0_pay221, k0_pay222, k0_pay223, k0_pay224, k0_pay225, k0_pay226, k0_pay227, k0_pay228,
    k0_pay229, k0_pay230, k0_pay231, k0_pay232, k0_pay233, k0_pay234, k0_pay235, k0_pay236, k0_pay237, k0_pay238, k0_pay239, k0_pay240,
    k0_pay241, k0_pay242, k0_pay243, k0_pay244, k0_pay245, k0_pay246, k0_pay247, k0_pay248, k0_pay249, k0_pay250, k0_pay251, k0_pay252,
    k0_pay253, k0_pay254, k0_pay255, k0_pay256, k0_pay257, k0_pay258, k0_pay259, k0_pay260, k0_pay261, k0_pay262, k0_pay263, k0_pay264,
    k0_pay265, k0_pay266, k0_pay267, k0_pay268, k0_pay269, k0_pay270, k0_pay271, k0_pay272, k0_pay273, k0_pay274, k0_pay275, k0_pay276,
    k0_pay277, k0_pay278, k0_pay279, k0_pay280, k0_pay281, k0_pay282, k0_pay283, k0_pay284, k0_pay285, k0_pay286, k0_pay287, k0_pay288,
    k0_pay289, k0_pay290, k0_pay291, k0_pay292, k0_pay293, k0_pay294, k0_pay295, k0_pay296, k0_pay297, k0_pay298, k0_pay299, k0_pay300,
    k0_pay301, k0_pay302, k0_pay303, k0_pay304, k0_pay305, k0_pay306, k0_pay307, k0_pay308, k0_pay309, k0_pay310, k0_pay311, k0_pay312,
    k0_pay313, k0_pay314, k0_pay315, k0_pay316, k0_pay317, k0_pay318, k0_pay319, k0_pay320, k0_pay321, k0_pay322, k0_pay323, k0_pay324,
    k0_pay325, k0_pay326, k0_pay327, k0_pay328, k0_pay329, k0_pay330, k0_pay331, k0_pay332, k0_pay333, k0_pay334, k0_pay335, k0_pay336,
    k0_pay337, k0_pay338, k0_pay339, k0_pay340, k0_pay341, k0_pay342, k0_pay343, k0_pay344, k0_pay345, k0_pay346, k0_pay347, k0_pay348,
    k0_pay349, k0_pay350, k0_pay351, k0_pay352]

/-- The body leaves in its block, image by image, what `image` computes of each image of the input block. -/
theorem out_eq (x0 : Vec Ideal S4x3x512x512 .f32) :
    out0_1 x0 = View.canon [⟨r0_7, image (View.ld x0 r0_6)⟩, ⟨r0_5, image (View.ld x0 r0_4)⟩,
      ⟨r0_3, image (View.ld x0 r0_2)⟩, ⟨r0_1, image (View.ld x0 r0_0)⟩] := by
  rw [out0_1, piece0, piece1, piece2, piece3]

end Cert.HogImage

end
-- ==== Proof.Array.lean ====
/- The kernel's output array and its result: every entry is the entry of the normalised blocks of its image. -/
module

public import proofs.«01_k».proof.Proof.Blocks
public import proofs.«01_k».proof.Proof.ImageEq
public import proofs.«01_k».proof.Proof.Gen.KernelIdeal.Frame
public import Idealize.ShloMosaic.Lib.Pipeline.Value
public import Idealize.ShloMosaic.Lib.Pipeline.ValueKit.Tiles
public import Idealize.ShloMosaic.Lib.ValueIdxRank6

@[expose] public section

noncomputable section

namespace Cert.HogArray

open Idealize.ShloMosaic Idealize.ShloMosaic.ValueIdx Cert.KernelIdeal Cert.KernelIdeal.Gen Cert.HogImage Cert.HogSpec

/-- The entry at row p of the 36 rows of an image's result: bin p / 4, cell (p mod 4) / 2 and p mod 2 of the block. -/
def entry (d : Fin 3 → EChan) (p : Fin 36) (y x : Fin 31) : EReal :=
  ((hogE d y x ⟨p.val % 4 / 2, by omega⟩ ⟨p.val % 2, by omega⟩ ⟨p.val / 4, by omega⟩ : ℝ) : EReal)

theorem image_entry (v : Vec Ideal S1x3x512x512 .f32) (d : Fin 3 → EChan)
    (hv : ∀ c h w, v (ix4 (0 : Fin 1) c h w) = d c h w) (p : Fin 36) (y x : Fin 31) :
    image v (ix4 (0 : Fin 1) p y x) = entry d p y x := by
  refine HogBlocks.image_reads v d hv y x _ _ _ p ?_
  show p.val = p.val / 4 * 4 + (2 * (p.val % 4 / 2) + p.val % 2)
  omega

/-- What a point stores: the four images' results. -/
def four (D : Fin 4 → Fin 3 → EChan) (i : S4x36x31x31.Idx) : EReal := entry (D (i 0)) (i 1) (i 2) (i 3)

theorem four_ix (D : Fin 4 → Fin 3 → EChan) (a : Fin 4) (p : Fin 36) (y x : Fin 31) : four D (ix4 a p y x) = entry (D a) p y x := rfl

/-- One image of the four, entry by entry. -/
theorem piece_ix (x0 : Vec Ideal S4x3x512x512 .f32) (D : Fin 4 → Fin 3 → EChan)
    (hx : ∀ a c h w, x0 (ix4 a c h w) = D a c h w) (a : Fin 4)
    (inb : ∀ b, (![a.val, 0, 0, 0] : Fin 4 → ℕ) b + S1x3x512x512.size b ≤ S4x3x512x512.size b)
    (inb' : ∀ b, (![a.val, 0, 0, 0] : Fin 4 → ℕ) b + S1x36x31x31.size b ≤ S4x36x31x31.size b) (o : Fin 1) (p : Fin 36) (y x : Fin 31) :
    image (View.ld (Val := Elt Ideal) (e' := .f32) x0 (Rect.unit (s := S4x3x512x512) ![a.val, 0, 0, 0] S1x3x512x512.size inb)) (ix4 o p y x)
      = four D ((Rect.unit (s := S4x36x31x31) ![a.val, 0, 0, 0] S1x36x31x31.size inb').emb (ix4 o p y x)) := by
  obtain rfl : o = 0 := Subsingleton.elim _ _
  have e : (Rect.unit (s := S4x36x31x31) ![a.val, 0, 0, 0] S1x36x31x31.size inb').emb (ix4 (0 : Fin 1) p y x) = (ix4 a p y x : S4x36x31x31.Idx) := by
    funext b
    apply Fin.ext
    match b with
    | ⟨0, _⟩ => show a.val + 1 * 0 = a.val; omega
    | ⟨1, _⟩ => show 0 + 1 * p.val = p.val; omega
    | ⟨2, _⟩ => show 0 + 1 * y.val = y.val; omega
    | ⟨3, _⟩ => show 0 + 1 * x.val = x.val; omega
  refine Eq.trans (image_entry _ (D a) (fun c h w => ?_) p y x) (congrArg (four D) e).symm
  refine Eq.trans (View.ld_unit_apply_of x0 _ _ inb (ix4 (0 : Fin 1) c h w) (ix4 a c h w) fun b => ?_) (hx a c h w)
  match b with
  | ⟨0, _⟩ => rfl
  | ⟨1, _⟩ => exact (Nat.zero_add _).symm
  | ⟨2, _⟩ => exact (Nat.zero_add _).symm
  | ⟨3, _⟩ => exact (Nat.zero_add _).symm

/-- One image of the four. -/
theorem piece (x0 : Vec Ideal S4x3x512x512 .f32) (D : Fin 4 → Fin 3 → EChan)
    (hx : ∀ a c h w, x0 (ix4 a c h w) = D a c h w) (a : Fin 4)
    (inb : ∀ b, (![a.val, 0, 0, 0] : Fin 4 → ℕ) b + S1x3x512x512.size b ≤ S4x3x512x512.size b)
    (inb' : ∀ b, (![a.val, 0, 0, 0] : Fin 4 → ℕ) b + S1x36x31x31.size b ≤ S4x36x31x31.size b) (i : S1x36x31x31.Idx) :
    image (View.ld (Val := Elt Ideal) (e' := .f32) x0 (Rect.unit (s := S4x3x512x512) ![a.val, 0, 0, 0] S1x3x512x512.size inb)) i
      = four D ((Rect.unit (s := S4x36x31x31) ![a.val, 0, 0, 0] S1x36x31x31.size inb').emb i) := by
  rw [eq_ix4 i]
  exact piece_ix x0 D hx a inb inb' _ _ _ _

/-- What the body leaves in the staging buffer. -/
theorem out_reads (x0 : Vec Ideal S4x3x512x512 .f32) (D : Fin 4 → Fin 3 → EChan)
    (hx : ∀ a c h w, x0 (ix4 a c h w) = D a c h w) : out0_1 x0 = four D := by
  rw [HogImage.out_eq]
  funext i
  refine View.canon_apply_of_pieces (Val := Elt Ideal) (e := .f32) (four D) _ ?_ i (cover0_1 _ _ _ _ i)
  intro p hp j
  simp only [List.mem_cons, List.mem_nil_iff, or_false] at hp
  rcases hp with rfl | rfl | rfl | rfl
  · exact piece x0 D hx 3 inb_S4x3x512x512_S1x3x512x512_3_0_0_0 inb_S4x36x31x31_S1x36x31x31_3_0_0_0 j
  · exact piece x0 D hx 2 inb_S4x3x512x512_S1x3x512x512_2_0_0_0 inb_S4x36x31x31_S1x36x31x31_2_0_0_0 j
  · exact piece x0 D hx 1 inb_S4x3x512x512_S1x3x512x512_1_0_0_0 inb_S4x36x31x31_S1x36x31x31_1_0_0_0 j
  · exact piece x0 D hx 0 inb_S4x3x512x512_S1x3x512x512_0_0_0_0 inb_S4x36x31x31_S1x36x31x31_0_0_0_0 j

/-! ## The whole array -/

variable (m : (ℓ : Loc nD τ sig) → Buf (Elt Ideal) ℓ)

/-- The kernel's argument. -/
abbrev arg (c : Dev nD) : Vec Ideal S16x3x512x512 .f32 := m ((c.tc : Thread nD τ).loc main_arg0)

/-- The kernel's output array. -/
def whole (D : Fin 16 → Fin 3 → EChan) (i : S16x36x31x31.Idx) : EReal := entry (D (i 0)) (i 1) (i 2) (i 3)

theorem idx_facts : ∀ t : Fin cfg0.N, win0_1.index t (0 : Fin 4) = t.val ∧ win0_1.index t (1 : Fin 4) = 0 ∧ win0_1.index t (2 : Fin 4) = 0
    ∧ win0_1.index t (3 : Fin 4) = 0 ∧ win0_0.index t (0 : Fin 4) = t.val ∧ win0_0.index t (1 : Fin 4) = 0 ∧ win0_0.index t (2 : Fin 4) = 0
    ∧ win0_0.index t (3 : Fin 4) = 0 :=
  (by decide +kernel : ∀ t : Fin grid0.N, win0_1.index t (0 : Fin 4) = t.val ∧ win0_1.index t (1 : Fin 4) = 0 ∧ win0_1.index t (2 : Fin 4) = 0
    ∧ win0_1.index t (3 : Fin 4) = 0 ∧ win0_0.index t (0 : Fin 4) = t.val ∧ win0_0.index t (1 : Fin 4) = 0 ∧ win0_0.index t (2 : Fin 4) = 0
    ∧ win0_0.index t (3 : Fin 4) = 0)

/-- Image a of point t's four. -/
def img (t : Fin cfg0.N) (a : Fin 4) : Fin 16 := ⟨t.val * 4 + a.val, by have := t.isLt; have e : cfg0.N = 4 := N_0; omega⟩

/-- The block a point reads. -/
theorem iblk_reads (c : Dev nD) (D : Fin 16 → Fin 3 → EChan)
    (hD : ∀ b k h w, arg m c (ix4 b k h w) = D b k h w) (t : Fin cfg0.N) (a : Fin 4) (k : Fin 3)
    (h w : Fin 512) : (iblk m c 0 t : Vec Ideal S4x3x512x512 .f32) (ix4 a k h w) = D (img t a) k h w := by
  obtain ⟨-, -, -, -, e0, e1, e2, e3⟩ := idx_facts t
  refine Eq.trans ?_ (hD (img t a) k h w)
  show arg m c ((win0_0.rect t).emb (ix4 a k h w)) = _
  congr 1
  funext b
  apply Fin.ext
  match b with
  | ⟨0, _⟩ => show win0_0.index t (0 : Fin 4) * 4 + 1 * a.val = t.val * 4 + a.val; rw [e0]; omega
  | ⟨1, _⟩ => show win0_0.index t (1 : Fin 4) * 3 + 1 * k.val = k.val; rw [e1]; omega
  | ⟨2, _⟩ => show win0_0.index t (2 : Fin 4) * 512 + 1 * h.val = h.val; rw [e2]; omega
  | ⟨3, _⟩ => show win0_0.index t (3 : Fin 4) * 512 + 1 * w.val = w.val; rw [e3]; omega

theorem flushed_eq (c : Dev nD) (D : Fin 16 → Fin 3 → EChan)
    (hD : ∀ b k h w, arg m c (ix4 b k h w) = D b k h w) (t : Fin cfg0.N) :
    (dats m 0 c).flushed 1 t = ((cfg0.win 1).blk t).view.read (Elt Ideal) (whole D) := by
  obtain ⟨e0, e1, e2, e3, -⟩ := idx_facts t
  unfold Pipeline.Dat.flushed
  rw [after0_1, out_reads (iblk m c 0 t) (fun a => D (img t a)) fun a k h w => iblk_reads m c D hD t a k h w]
  funext (i : S4x36x31x31.Idx)
  show four (fun a => D (img t a)) i = whole D ((win0_1.rect t).emb i)
  have e : (win0_1.rect t).emb i = ix4 (img t (i 0)) (i 1) (i 2) (i 3) := by
    funext b
    apply Fin.ext
    match b with
    | ⟨0, _⟩ => show win0_1.index t (0 : Fin 4) * 4 + 1 * (i 0 : Fin 4).val = t.val * 4 + (i 0 : Fin 4).val; rw [e0]; omega
    | ⟨1, _⟩ => show win0_1.index t (1 : Fin 4) * 36 + 1 * (i 1 : Fin 36).val = (i 1 : Fin 36).val; rw [e1]; omega
    | ⟨2, _⟩ => show win0_1.index t (2 : Fin 4) * 31 + 1 * (i 2 : Fin 31).val = (i 2 : Fin 31).val; rw [e2]; omega
    | ⟨3, _⟩ => show win0_1.index t (3 : Fin 4) * 31 + 1 * (i 3 : Fin 31).val = (i 3 : Fin 31).val; rw [e3]; omega
  rw [e]
  rfl

theorem mem_blk (t : Fin cfg0.N) (i : S16x36x31x31.Idx) :
    i ∈ ((cfg0.win 1).blk t).view.set ↔ ∀ b : Fin 4, win0_1.index t b * S4x36x31x31.size b ≤ (i b).val ∧ (i b).val < win0_1.index t b * S4x36x31x31.size b + S4x36x31x31.size b := by
  show i ∈ ((View.whole main_v0).slice (win0_1.rect t)).set ↔ _
  rw [View.set_slice_whole, Rect.mem_set_unit]
  exact Iff.rfl

theorem flush_all : ∀ t : Fin cfg0.N, (cfg0.win 1).flush t = true := (by decide +kernel : ∀ t : Fin grid0.N, win0_1.flush t = true)

theorem cover (i : S16x36x31x31.Idx) : ∃ t : Fin cfg0.N, (cfg0.win 1).flush t = true ∧ i ∈ ((cfg0.win 1).blk t).view.set := by
  have h0 : (i 0 : Fin 16).val < 16 := (i 0 : Fin 16).isLt
  have eN : cfg0.N = 4 := N_0
  let t : Fin cfg0.N := ⟨(i 0 : Fin 16).val / 4, by rw [eN]; omega⟩
  obtain ⟨e0, e1, e2, e3, -⟩ := idx_facts t
  have et : t.val = (i 0 : Fin 16).val / 4 := rfl
  refine ⟨t, flush_all t, ?_⟩
  rw [mem_blk]
  intro b
  match b with
  | ⟨0, _⟩ =>
    show win0_1.index t (0 : Fin 4) * 4 ≤ (i 0 : Fin 16).val ∧ (i 0 : Fin 16).val < win0_1.index t (0 : Fin 4) * 4 + 4
    rw [e0, et]; omega
  | ⟨1, _⟩ =>
    have : (i 1 : Fin 36).val < 36 := (show Fin 36 from i 1).isLt
    show win0_1.index t (1 : Fin 4) * 36 ≤ (i 1 : Fin 36).val ∧ (i 1 : Fin 36).val < win0_1.index t (1 : Fin 4) * 36 + 36
    rw [e1]; omega
  | ⟨2, _⟩ =>
    have : (i 2 : Fin 31).val < 31 := (show Fin 31 from i 2).isLt
    show win0_1.index t (2 : Fin 4) * 31 ≤ (i 2 : Fin 31).val ∧ (i 2 : Fin 31).val < win0_1.index t (2 : Fin 4) * 31 + 31
    rw [e2]; omega
  | ⟨3, _⟩ =>
    have : (i 3 : Fin 31).val < 31 := (show Fin 31 from i 3).isLt
    show win0_1.index t (3 : Fin 4) * 31 ≤ (i 3 : Fin 31).val ∧ (i 3 : Fin 31).val < win0_1.index t (3 : Fin 4) * 31 + 31
    rw [e3]; omega

/-- The array after the run. -/
theorem arrAt_eq (c : Dev nD) (D : Fin 16 → Fin 3 → EChan)
    (hD : ∀ b k h w, arg m c (ix4 b k h w) = D b k h w) :
    (dats m 0 c).arrAt 1 cfg0.N = whole D :=
  (dats m 0 c).arrAt_eq_of_cover 1 (whole D) (fun t _ => flushed_eq m c D hD t) cover

end Cert.HogArray

end
-- ==== Proof.Result.lean ====
/- The kernel's result: the output array laid out as blocks, each entry the entry of the normalised blocks of its image. -/
module

public import proofs.«01_k».proof.Proof.Array
public import Idealize.ShloMosaic.Lib.ValueIdxRank6

@[expose] public section

noncomputable section

namespace Cert.HogResult

open Idealize.ShloMosaic Idealize.ShloMosaic.TcCoe Idealize.SL.Sem Idealize.ShloMosaic.StableHlo Idealize.ShloMosaic.ValueIdx Cert.KernelIdeal Cert.KernelIdeal.Gen Cert.HogArray Cert.HogSpec

/-- The result laid out with the block's cells and the bin last: entry (b, y, x, u, v, k) is entry (u, v, k) of block (y, x) of image b. -/
def blocks (D : Fin 16 → Fin 3 → EChan) (i : S16x31x31x2x2x9.Idx) : EReal :=
  ((hogE (D (i 0)) (i 1) (i 2) (i 3) (i 4) (i 5) : ℝ) : EReal)

/-- The operations after the kernel: the output array's rows split in bin and cell, the axes reordered, a unit axis added. -/
def laid (o : Vec Ideal S16x36x31x31 .f32) : Vec Ideal S16x31x31x2x2x9 .f32 :=
  transpose S16x31x31x2x2x9 [0, 4, 5, 2, 3, 1] (shapeCast S16x9x2x2x31x31 o shapeCasts_S16x36x31x31_S16x9x2x2x31x31) transposes_S16x9x2x2x31x31_S16x31x31x2x2x9_0_4_5_2_3_1

theorem laid_ix (o : Vec Ideal S16x36x31x31 .f32) (b : Fin 16) (y x : Fin 31) (u v : Fin 2) (k : Fin 9) (p : Fin 36)
    (hp : p.val = k.val * 4 + (2 * u.val + v.val)) : laid o (ix6 b y x u v k) = o (ix4 b p y x) := by
  unfold laid
  refine Eq.trans (transpose_apply [0, 4, 5, 2, 3, 1] _ _ _ (ix6 b k u v y x) fun a => ?_) ?_
  · match a with
    | 0 => rfl
    | 1 => rfl
    | 2 => rfl
    | 3 => rfl
    | 4 => rfl
    | 5 => rfl
  · refine shapeCast_apply _ _ _ (ix4 b p y x) ?_
    refine Eq.trans (Shape.rowMajor_val_four _) (Eq.trans ?_ (Shape.rowMajor_val_six _).symm)
    show ((b.val * 36 + p.val) * 31 + y.val) * 31 + x.val = ((((b.val * 9 + k.val) * 2 + u.val) * 2 + v.val) * 31 + y.val) * 31 + x.val
    rw [hp]
    ring

/-- The reordered output array is the blocks. -/
theorem laid_whole (D : Fin 16 → Fin 3 → EChan) : laid (whole D) = blocks D := by
  funext i
  rw [ValueIdx.eq_ix6 i]
  refine Eq.trans (laid_ix _ (i 0) (i 1) (i 2) (i 3) (i 4) (i 5) ⟨(i 5).val * 4 + (2 * (i 3).val + (i 4).val), ?_⟩ rfl) ?_
  · have h3 : (i 3).val < 2 := (i 3).isLt
    have h4 : (i 4).val < 2 := (i 4).isLt
    have h5 : (i 5).val < 9 := (i 5).isLt
    omega
  · have h3 : (i 3).val < 2 := (i 3).isLt
    have h4 : (i 4).val < 2 := (i 4).isLt
    show ((hogE (D (i 0)) (i 1) (i 2) ⟨_, _⟩ ⟨_, _⟩ ⟨_, _⟩ : ℝ) : EReal) = ((hogE (D (i 0)) (i 1) (i 2) (i 3) (i 4) (i 5) : ℝ) : EReal)
    congr 2
    · apply Fin.ext
      show ((i 5).val * 4 + (2 * (i 3).val + (i 4).val)) % 4 / 2 = (i 3).val
      omega
    · apply Fin.ext
      show ((i 5).val * 4 + (2 * (i 3).val + (i 4).val)) % 2 = (i 4).val
      omega
    · apply Fin.ext
      show ((i 5).val * 4 + (2 * (i 3).val + (i 4).val)) / 4 = (i 5).val
      omega

/-- The operations after the kernel leave in the result the output array reordered, with the unit axis. -/
theorem tail (V0 : Valuation τ sig (Elt Ideal)) :
    after (List.flatten [hostOps1 (F := Ideal)]) V0 (Proc.devRef .tc main_v3)
      = shapeCast S16x1x31x31x2x2x9 (laid (V0 (Proc.devRef .tc main_v0))) shapeCasts_S16x31x31x2x2x9_S16x1x31x31x2x2x9 := by
  simp only [hostOps1, List.flatten_cons, List.flatten_nil, List.append_nil, List.cons_append, List.nil_append]
  after_results
  rfl

variable (m : (ℓ : Loc nD τ sig) → Buf (Elt Ideal) ℓ) (ρ : Dev nD → PrngReg)

/-- The result's contents after the whole program. -/
theorem result (c : Dev nD) (D : Fin 16 → Fin 3 → EChan)
    (hD : ∀ b k h w, arg m c (ix4 b k h w) = D b k h w) :
    Pipeline.afterTail₀ cfgs (dats m) 0 (V0 m) [hostOps1] c main_v3
      = shapeCast S16x1x31x31x2x2x9 (blocks D) shapeCasts_S16x31x31x2x2x9_S16x1x31x31x2x2x9 := by
  refine Eq.trans (tail _) ?_
  refine congrArg (fun o => shapeCast S16x1x31x31x2x2x9 o shapeCasts_S16x31x31x2x2x9_S16x1x31x31x2x2x9) ?_
  rw [← laid_whole D]
  refine congrArg laid ?_
  exact (Pipeline.withArrays_arr spec0 launch0.win.arr_inj c (V0 m c) (fun w => (dats m 0 c).arrAt w (cfgs 0).N) 1).trans (arrAt_eq m c D hD)

/-- Every run of the kernel's program ends with the blocks in the result and the images unchanged. -/
theorem run (D : Dev nD → Fin 16 → Fin 3 → EChan)
    (hD : ∀ c b k h w, arg m c (ix4 b k h w) = D c b k h w) :
    θ_run defs (onTc (τ := τ) (main (F := Ideal))) ⟨m, fun _ => 0, ρ⟩ (fun r => ∀ c : Dev nD,
      r.2.mem ((c.tc : Thread nD τ).loc main_v3) = shapeCast S16x1x31x31x2x2x9 (blocks (D c)) shapeCasts_S16x31x31x2x2x9_S16x1x31x31x2x2x9
      ∧ r.2.mem ((c.tc : Thread nD τ).loc main_arg0) = m ((c.tc : Thread nD τ).loc main_arg0)) := by
  have value : θ_run defs (onTc (τ := τ) (main (F := Ideal))) ⟨m, fun _ => 0, ρ⟩ (fun r => ∀ c : Dev nD,
      r.2.mem ((c.tc : Thread nD τ).loc main_v3) = shapeCast S16x1x31x31x2x2x9 (blocks (D c)) shapeCasts_S16x31x31x2x2x9_S16x1x31x31x2x2x9) :=
    (θ_run defs _ _).mono (fun _ h c =>
      ((h c).2 main_v3 (Pipeline.mem_restRefs_of main_v3 (by decide) (by decide))).trans (result m c (D c) (hD c))) (run_main m ρ)
  have same : θ_run defs (onTc (τ := τ) (main (F := Ideal))) ⟨m, fun _ => 0, ρ⟩ (fun r => ∀ c : Dev nD,
      r.2.mem ((c.tc : Thread nD τ).loc main_arg0) = m ((c.tc : Thread nD τ).loc main_arg0)) := unchanged m ρ
  exact (θ_run defs _ _).mono (fun _ h c => ⟨h.1 c, h.2 c⟩) (θ_run_and value same)

end Cert.HogResult
-- ==== Proof.Scalars.lean ====
/- The scalar operations at real operands. -/
module

public import proofs.«01_k».proof.Proof.Words
public import Idealize.ShloMosaic.PureOps.Ideal.Laws
public import Idealize.ShloMosaic.Lib.Pipeline.Value
public import Idealize.ShloMosaic.Lib.ValueIdx

@[expose] public section

noncomputable section

namespace Cert.HogScalars

open Idealize.ShloMosaic Idealize.ShloMosaic.ValueIdx Cert.HogWords

variable {a b : Ideal .f32} {p q : ℝ}

/-! Each operation on values that are real numbers gives the real number of the operation's name. -/

theorem add_at (ha : a = (p : EReal)) (hb : b = (q : EReal)) : FloatOps.addf a b = ((p + q : ℝ) : EReal) := by
  subst ha hb; exact (EReal.coe_add p q).symm
theorem sub_at (ha : a = (p : EReal)) (hb : b = (q : EReal)) : FloatOps.subf a b = ((p - q : ℝ) : EReal) := by
  subst ha hb; exact (EReal.coe_sub p q).symm
theorem mul_at (ha : a = (p : EReal)) (hb : b = (q : EReal)) : FloatOps.mulf a b = ((p * q : ℝ) : EReal) := by
  subst ha hb; exact (EReal.coe_mul p q).symm
theorem neg_at (ha : a = (p : EReal)) : FloatOps.hostNegf a = ((-p : ℝ) : EReal) := by
  subst ha; exact (EReal.coe_neg p).symm
theorem div_at (ha : a = (p : EReal)) (hb : b = (q : EReal)) (h : q ≠ 0) : FloatOps.hostDivf a b = ((p / q : ℝ) : EReal) := by
  subst ha hb; exact div_real p q h
theorem max_at (ha : a = (p : EReal)) (hb : b = (q : EReal)) : FloatOps.maximumf a b = ((max p q : ℝ) : EReal) := by
  subst ha hb; exact max_real p q
theorem min_at (ha : a = (p : EReal)) (hb : b = (q : EReal)) : FloatOps.minimumf a b = ((min p q : ℝ) : EReal) := by
  subst ha hb; exact min_real p q
theorem abs_at (ha : a = (p : EReal)) : FloatOps.hostAbsf a = ((|p| : ℝ) : EReal) := by
  subst ha; exact abs_real p
theorem sqrt_at (ha : a = (p : EReal)) (h : 0 ≤ p) : FloatOps.hostUnary .sqrt a = ((Real.sqrt p : ℝ) : EReal) := by
  subst ha; exact sqrt_real p h
theorem floor_at (ha : a = (p : EReal)) : FloatOps.hostUnary .floor a = (((⌊p⌋ : ℤ) : ℝ) : EReal) := by
  subst ha; exact Ideal.liftRound_coe _ _

theorem one_iff (P : Prop) [Decidable P] : BitVec.ofBool (decide P) = 1#1 ↔ P := by by_cases h : P <;> simp [h]

/-! A comparison gives the bit 1 just where it holds. -/

theorem ogt_at (ha : a = (p : EReal)) (hb : b = (q : EReal)) : FloatOps.cmpf .ogt a b = 1#1 ↔ q < p := by
  subst ha hb; exact (one_iff _).trans EReal.coe_lt_coe_iff
theorem oge_at (ha : a = (p : EReal)) (hb : b = (q : EReal)) : FloatOps.cmpf .oge a b = 1#1 ↔ q ≤ p := by
  subst ha hb; exact (one_iff _).trans EReal.coe_le_coe_iff
theorem oeq_at (ha : a = (p : EReal)) (hb : b = (q : EReal)) : FloatOps.cmpf .oeq a b = 1#1 ↔ p = q := by
  subst ha hb; exact (one_iff _).trans EReal.coe_eq_coe_iff
theorem or_at {c d : BitVec 1} {P Q : Prop} (hc : c = 1#1 ↔ P) (hd : d = 1#1 ↔ Q) : IntOp.ori c d = 1#1 ↔ P ∨ Q := by
  rw [← hc, ← hd]; clear hc hd; revert c d; decide

/-- A choice by a bit. -/
theorem pick_at {c : BitVec 1} {P : Prop} [Decidable P] (hc : c = 1#1 ↔ P) (ha : a = (p : EReal)) (hb : b = (q : EReal)) :
    Scalar.select c a b = ((if P then p else q : ℝ) : EReal) := by
  by_cases h : P
  · rw [if_pos h, hc.2 h, select_one, ha]
  · rw [if_neg h, eq_zero_of_ne_one (mt hc.1 h), select_zero, hb]

end Cert.HogScalars
-- ==== Proof.RefPad.lean ====
/- The reference's padded images and their gradients, entry by entry. -/
module

public import proofs.«01_k».proof.Proof.Scalars
public import proofs.«01_k».proof.Proof.Infinite
public import proofs.«01_k».proof.Proof.Gen.ReferenceIdeal.Read
public import Idealize.ShloMosaic.Lib.ValueIdx

@[expose] public section

noncomputable section

namespace Cert.HogRef

open Idealize.ShloMosaic Idealize.ShloMosaic.ValueIdx Cert.ReferenceIdeal Cert.ReferenceIdeal.Gen Cert.ReferenceIdeal.Read Cert.HogSpec Cert.HogScalars Cert.HogWords

/-- The pixels of the images. -/
abbrev images (x0 : Vec Ideal S16x3x512x512 .f32) : Fin 16 → Fin 3 → EChan := fun b c h w => x0 (ix4 b c h w)

/-! Sums and products of numbers that may be infinite. -/

theorem addE {a b : Ideal .f32} {p q : EReal} (ha : a = p) (hb : b = q) : FloatOps.addf a b = p + q := by subst ha hb; rfl
theorem mulE {a b : Ideal .f32} {p q : EReal} (ha : a = p) (hb : b = q) : FloatOps.mulf a b = p * q := by subst ha hb; rfl

theorem mir_low (p : ℕ) (h : p = 0) : (mir p).val = 1 := by subst h; rfl
theorem mir_mid (p : ℕ) (h0 : 0 < p) (h : p < 513) : (mir p).val = p - 1 := by
  show (if p = 0 then 1 else if 513 ≤ p then 510 else p - 1) = p - 1
  rw [if_neg h0.ne', if_neg (not_le.2 h)]
theorem mir_high (p : ℕ) (h : 513 ≤ p) : (mir p).val = 510 := by
  show (if p = 0 then 1 else if 513 ≤ p then 510 else p - 1) = 510
  rw [if_neg (by omega), if_pos h]

variable {x0 : Vec Ideal S16x3x512x512 .f32}

/-- The rows of the images with a reflected row on each side. -/
theorem rows_apply (b : Fin 16) (c : Fin 3) (p : Fin 514) (w : Fin 512) :
    val_main_v5 x0 (ix4 b c p w) = x0 (ix4 b c (mir p.val) w) := by
  unfold val_main_v5
  by_cases hp : p.val < 1
  · rw [concatenate_pair_apply_left (t := S16x3x514x512) (s₁ := S16x3x1x512) (s₂ := S16x3x513x512) 2 _ _ _ (ix4 b c p w) rfl
      (ix4 (n0 := 16) (n1 := 3) (n2 := 1) (n3 := 512) b c ⟨p.val, hp⟩ w) (fun a => match a with | ⟨0, _⟩ => rfl | ⟨1, _⟩ => rfl | ⟨2, _⟩ => rfl | ⟨3, _⟩ => rfl)]
    exact extractStridedSlice_apply _ x0 _ _ (ix4 b c (mir p.val) w) (fun a => match a with
      | ⟨0, _⟩ => (Nat.zero_add _).symm
      | ⟨1, _⟩ => (Nat.zero_add _).symm
      | ⟨2, _⟩ => by show (mir p.val).val = 1 + p.val; rw [mir_low _ (by omega)]; omega
      | ⟨3, _⟩ => (Nat.zero_add _).symm)
  · rw [concatenate_pair_apply_right (t := S16x3x514x512) (s₁ := S16x3x1x512) (s₂ := S16x3x513x512) 2 _ _ _ (ix4 b c p w) rfl rfl
      (ix4 (n0 := 16) (n1 := 3) (n2 := 513) (n3 := 512) b c ⟨p.val - 1, by omega⟩ w)
      (fun a => match a with | ⟨0, _⟩ => fun _ => rfl | ⟨1, _⟩ => fun _ => rfl | ⟨2, _⟩ => fun hb => absurd rfl hb | ⟨3, _⟩ => fun _ => rfl)
      (by show p.val - 1 + 1 = p.val; omega)]
    unfold val_main_v4
    by_cases hq : p.val < 513
    · rw [concatenate_pair_apply_left (t := S16x3x513x512) (s₁ := S16x3x512x512) (s₂ := S16x3x1x512) 2 _ _ _ _ rfl
        (ix4 (n0 := 16) (n1 := 3) (n2 := 512) (n3 := 512) b c ⟨p.val - 1, by omega⟩ w)
        (fun a => match a with | ⟨0, _⟩ => rfl | ⟨1, _⟩ => rfl | ⟨2, _⟩ => rfl | ⟨3, _⟩ => rfl)]
      refine congrArg (fun r => x0 (ix4 b c r w)) (Fin.ext ?_)
      show p.val - 1 = (mir p.val).val
      rw [mir_mid _ (by omega) hq]
    · rw [concatenate_pair_apply_right (t := S16x3x513x512) (s₁ := S16x3x512x512) (s₂ := S16x3x1x512) 2 _ _ _ _ rfl rfl
        (ix4 (n0 := 16) (n1 := 3) (n2 := 1) (n3 := 512) b c ⟨0, Nat.one_pos⟩ w)
        (fun a => match a with | ⟨0, _⟩ => fun _ => rfl | ⟨1, _⟩ => fun _ => rfl | ⟨2, _⟩ => fun hb => absurd rfl hb | ⟨3, _⟩ => fun _ => rfl)
        (by show 0 + 512 = p.val - 1; have := p.isLt; omega)]
      exact extractStridedSlice_apply _ x0 _ _ (ix4 b c (mir p.val) w) (fun a => match a with
        | ⟨0, _⟩ => (Nat.zero_add _).symm
        | ⟨1, _⟩ => (Nat.zero_add _).symm
        | ⟨2, _⟩ => by show (mir p.val).val = 510 + 0; rw [mir_high _ (by omega)]
        | ⟨3, _⟩ => (Nat.zero_add _).symm)

/-- The images with a reflected row or column on each side. -/
theorem padded_apply (b : Fin 16) (c : Fin 3) (p q : Fin 514) :
    val_main_v9 x0 (ix4 b c p q) = x0 (ix4 b c (mir p.val) (mir q.val)) := by
  unfold val_main_v9
  by_cases hq : q.val < 1
  · rw [concatenate_pair_apply_left (t := S16x3x514x514) (s₁ := S16x3x514x1) (s₂ := S16x3x514x513) 3 _ _ _ (ix4 b c p q) rfl
      (ix4 (n0 := 16) (n1 := 3) (n2 := 514) (n3 := 1) b c p ⟨q.val, hq⟩) (fun a => match a with | ⟨0, _⟩ => rfl | ⟨1, _⟩ => rfl | ⟨2, _⟩ => rfl | ⟨3, _⟩ => rfl)]
    rw [← rows_apply (x0 := x0)]
    exact extractStridedSlice_apply _ (val_main_v5 x0) _ _ (ix4 b c p (mir q.val)) (fun a => match a with
      | ⟨0, _⟩ => (Nat.zero_add _).symm
      | ⟨1, _⟩ => (Nat.zero_add _).symm
      | ⟨3, _⟩ => by show (mir q.val).val = 1 + q.val; rw [mir_low _ (by omega)]; omega
      | ⟨2, _⟩ => (Nat.zero_add _).symm)
  · rw [concatenate_pair_apply_right (t := S16x3x514x514) (s₁ := S16x3x514x1) (s₂ := S16x3x514x513) 3 _ _ _ (ix4 b c p q) rfl rfl
      (ix4 (n0 := 16) (n1 := 3) (n2 := 514) (n3 := 513) b c p ⟨q.val - 1, by omega⟩)
      (fun a => match a with | ⟨0, _⟩ => fun _ => rfl | ⟨1, _⟩ => fun _ => rfl | ⟨3, _⟩ => fun hb => absurd rfl hb | ⟨2, _⟩ => fun _ => rfl)
      (by show q.val - 1 + 1 = q.val; omega)]
    unfold val_main_v8
    by_cases hr : q.val < 513
    · rw [concatenate_pair_apply_left (t := S16x3x514x513) (s₁ := S16x3x514x512) (s₂ := S16x3x514x1) 3 _ _ _ _ rfl
        (ix4 (n0 := 16) (n1 := 3) (n2 := 514) (n3 := 512) b c p ⟨q.val - 1, by omega⟩)
        (fun a => match a with | ⟨0, _⟩ => rfl | ⟨1, _⟩ => rfl | ⟨2, _⟩ => rfl | ⟨3, _⟩ => rfl), rows_apply]
      refine congrArg (fun r => x0 (ix4 b c (mir p.val) r)) (Fin.ext ?_)
      show q.val - 1 = (mir q.val).val
      rw [mir_mid _ (by omega) hr]
    · rw [concatenate_pair_apply_right (t := S16x3x514x513) (s₁ := S16x3x514x512) (s₂ := S16x3x514x1) 3 _ _ _ _ rfl rfl
        (ix4 (n0 := 16) (n1 := 3) (n2 := 514) (n3 := 1) b c p ⟨0, Nat.one_pos⟩)
        (fun a => match a with | ⟨0, _⟩ => fun _ => rfl | ⟨1, _⟩ => fun _ => rfl | ⟨3, _⟩ => fun hb => absurd rfl hb | ⟨2, _⟩ => fun _ => rfl)
        (by show 0 + 512 = q.val - 1; have := q.isLt; omega), ← rows_apply (x0 := x0)]
      exact extractStridedSlice_apply _ (val_main_v5 x0) _ _ (ix4 b c p (mir q.val)) (fun a => match a with
        | ⟨0, _⟩ => (Nat.zero_add _).symm
        | ⟨1, _⟩ => (Nat.zero_add _).symm
        | ⟨3, _⟩ => by show (mir q.val).val = 510 + 0; rw [mir_high _ (by omega)]
        | ⟨2, _⟩ => (Nat.zero_add _).symm)

/-- A tap of the padded images, shifted by r rows and s columns. -/
theorem tap (r s : ℕ) (hs : S16x3x514x514.Slices ![0, 0, r, s] S16x3x512x512) (hr : r ≤ 2) (hs2 : s ≤ 2)
    (b : Fin 16) (c : Fin 3) (h w : Fin 512) :
    extractStridedSlice S16x3x512x512 ![0, 0, r, s] (val_main_v9 x0) hs (ix4 b c h w)
      = epad (images x0 b c) (h.val + r) (w.val + s) := by
  refine Eq.trans (extractStridedSlice_apply _ (val_main_v9 x0) _ _
    (ix4 b c (⟨h.val + r, by omega⟩ : Fin 514) (⟨w.val + s, by omega⟩ : Fin 514)) (fun a => match a with
      | ⟨0, _⟩ => (Nat.zero_add _).symm
      | ⟨1, _⟩ => (Nat.zero_add _).symm
      | ⟨2, _⟩ => Nat.add_comm _ _
      | ⟨3, _⟩ => Nat.add_comm _ _)) ?_
  rw [padded_apply]
  rfl

variable (b : Fin 16) (c : Fin 3) (h w : Fin 512)

/-- The horizontal gradient. -/
theorem gx_apply : val_main_v32 x0 (ix4 b c h w)
    = ((-1 : ℝ) : EReal) * epad (images x0 b c) h w + ((1 : ℝ) : EReal) * epad (images x0 b c) h (w.val + 2)
      + ((-2 : ℝ) : EReal) * epad (images x0 b c) (h.val + 1) w + ((2 : ℝ) : EReal) * epad (images x0 b c) (h.val + 1) (w.val + 2)
      + ((-1 : ℝ) : EReal) * epad (images x0 b c) (h.val + 2) w + ((1 : ℝ) : EReal) * epad (images x0 b c) (h.val + 2) (w.val + 2) :=
  addE (addE (addE (addE (addE
    (mulE f32_m1 (tap 0 0 _ (by omega) (by omega) b c h w)) (mulE f32_1 (tap 0 2 _ (by omega) (by omega) b c h w)))
    (mulE f32_m2 (tap 1 0 _ (by omega) (by omega) b c h w))) (mulE f32_2 (tap 1 2 _ (by omega) (by omega) b c h w)))
    (mulE f32_m1 (tap 2 0 _ (by omega) (by omega) b c h w))) (mulE f32_1 (tap 2 2 _ (by omega) (by omega) b c h w))

/-- The vertical gradient. -/
theorem gy_apply : val_main_v55 x0 (ix4 b c h w)
    = ((-1 : ℝ) : EReal) * epad (images x0 b c) h w + ((-2 : ℝ) : EReal) * epad (images x0 b c) h (w.val + 1)
      + ((-1 : ℝ) : EReal) * epad (images x0 b c) h (w.val + 2) + ((1 : ℝ) : EReal) * epad (images x0 b c) (h.val + 2) w
      + ((2 : ℝ) : EReal) * epad (images x0 b c) (h.val + 2) (w.val + 1) + ((1 : ℝ) : EReal) * epad (images x0 b c) (h.val + 2) (w.val + 2) :=
  addE (addE (addE (addE (addE
    (mulE f32_m1 (tap 0 0 _ (by omega) (by omega) b c h w)) (mulE f32_m2 (tap 0 1 _ (by omega) (by omega) b c h w)))
    (mulE f32_m1 (tap 0 2 _ (by omega) (by omega) b c h w))) (mulE f32_1 (tap 2 0 _ (by omega) (by omega) b c h w)))
    (mulE f32_2 (tap 2 1 _ (by omega) (by omega) b c h w))) (mulE f32_1 (tap 2 2 _ (by omega) (by omega) b c h w))

theorem gx_reads (hb : ¬ BadX (images x0 b c) h w) : val_main_v32 x0 (ix4 b c h w) = ((gX (re (images x0 b c)) h w : ℝ) : EReal) := by
  unfold BadX at hb
  push Not at hb
  obtain ⟨b0, b1, b2, b3, b4, b5⟩ := hb
  rw [gx_apply, epad_real b0, epad_real b1, epad_real b2, epad_real b3, epad_real b4, epad_real b5]
  simp only [← EReal.coe_add, ← EReal.coe_mul]
  rfl

theorem gx_inf (hb : BadX (images x0 b c) h w) : Inf (val_main_v32 x0 (ix4 b c h w)) := by
  have h1 : (-1 : ℝ) ≠ 0 := by norm_num
  have h2 : (-2 : ℝ) ≠ 0 := by norm_num
  rw [gx_apply]
  simp only [inf_add, inf_mul two_ne_zero, inf_mul one_ne_zero, inf_mul h1, inf_mul h2]
  unfold BadX at hb
  tauto

theorem gy_reads (hb : ¬ BadY (images x0 b c) h w) : val_main_v55 x0 (ix4 b c h w) = ((gY (re (images x0 b c)) h w : ℝ) : EReal) := by
  unfold BadY at hb
  push Not at hb
  obtain ⟨b0, b1, b2, b3, b4, b5⟩ := hb
  rw [gy_apply, epad_real b0, epad_real b1, epad_real b2, epad_real b3, epad_real b4, epad_real b5]
  simp only [← EReal.coe_add, ← EReal.coe_mul]
  rfl

theorem gy_inf (hb : BadY (images x0 b c) h w) : Inf (val_main_v55 x0 (ix4 b c h w)) := by
  have h1 : (-1 : ℝ) ≠ 0 := by norm_num
  have h2 : (-2 : ℝ) ≠ 0 := by norm_num
  rw [gy_apply]
  simp only [inf_add, inf_mul two_ne_zero, inf_mul one_ne_zero, inf_mul h1, inf_mul h2]
  unfold BadY at hb
  tauto

/-- The gradient's length. -/
theorem norm_reads (hf : Fine (images x0 b c) h w) :
    val_main_v59 x0 (ix4 b c h w) = ((Real.sqrt (gS (re (images x0 b c)) h w) : ℝ) : EReal) :=
  sqrt_at (add_at (mul_at (gx_reads b c h w hf.1) (gx_reads b c h w hf.1)) (mul_at (gy_reads b c h w hf.2) (gy_reads b c h w hf.2)))
    (gS_nonneg _ h w)

/-- An infinite gradient's length. -/
theorem norm_inf (hf : ¬ Fine (images x0 b c) h w) : val_main_v59 x0 (ix4 b c h w) = (⊤ : EReal) := by
  have e : val_main_v32 x0 (ix4 b c h w) * val_main_v32 x0 (ix4 b c h w) + val_main_v55 x0 (ix4 b c h w) * val_main_v55 x0 (ix4 b c h w) = (⊤ : EReal) := by
    refine squares_inf ?_
    by_cases hx : BadX (images x0 b c) h w
    · exact Or.inl (gx_inf b c h w hx)
    · exact Or.inr (gy_inf b c h w (by_contra fun hy => hf ⟨hx, hy⟩))
  exact congrArg Ideal.sqrt e

end Cert.HogRef
-- ==== Proof.RefAngle.lean ====
/- The reference's choice of channel, its angle by quadrants, and the angle's coordinate in bins, entry by entry. -/
module

public import proofs.«01_k».proof.Proof.RefPad

@[expose] public section

noncomputable section

namespace Cert.HogRef

open Idealize.ShloMosaic Idealize.ShloMosaic.ValueIdx Cert.ReferenceIdeal Cert.ReferenceIdeal.Gen Cert.ReferenceIdeal.Read Cert.HogSpec Cert.HogScalars Cert.HogWords

variable {x0 : Vec Ideal S16x3x512x512 .f32}

/-- One channel of an array over images, channels, rows and columns. -/
theorem chan_apply (v : Vec Ideal S16x3x512x512 .f32) (k : Fin 3) (hs : S16x3x512x512.Slices ![0, k.val, 0, 0] S16x1x512x512)
    (b : Fin 16) (h w : Fin 512) :
    shapeCast S16x512x512 (extractStridedSlice S16x1x512x512 ![0, k.val, 0, 0] v hs) shapeCasts_S16x1x512x512_S16x512x512 (ix3 b h w)
      = v (ix4 b k h w) := by
  refine Eq.trans (shapeCast_apply _ _ _ (ix4 b (0 : Fin 1) h w) ?_) ?_
  · refine Eq.trans (Shape.rowMajor_val_four _) (Eq.trans ?_ (Shape.rowMajor_val_three _).symm)
    show ((b.val * 1 + 0) * 512 + h.val) * 512 + w.val = (b.val * 512 + h.val) * 512 + w.val
    ring
  · exact extractStridedSlice_apply _ v _ _ (ix4 b k h w) (fun a => match a with
      | ⟨0, _⟩ => (Nat.zero_add _).symm
      | ⟨1, _⟩ => rfl
      | ⟨2, _⟩ => (Nat.zero_add _).symm
      | ⟨3, _⟩ => (Nat.zero_add _).symm)

theorem norm_chan (k : Fin 3) (hs : S16x3x512x512.Slices ![0, k.val, 0, 0] S16x1x512x512) (b : Fin 16) (h w : Fin 512) (hf : FineAt (images x0 b) h w) :
    shapeCast S16x512x512 (extractStridedSlice S16x1x512x512 ![0, k.val, 0, 0] (val_main_v59 x0) hs) shapeCasts_S16x1x512x512_S16x512x512 (ix3 b h w)
      = ((Real.sqrt (gS (reals (images x0 b) k) h w) : ℝ) : EReal) := (chan_apply _ k hs b h w).trans (norm_reads b k h w (hf k))
theorem gx_chan (k : Fin 3) (hs : S16x3x512x512.Slices ![0, k.val, 0, 0] S16x1x512x512) (b : Fin 16) (h w : Fin 512) (hf : FineAt (images x0 b) h w) :
    shapeCast S16x512x512 (extractStridedSlice S16x1x512x512 ![0, k.val, 0, 0] (val_main_v32 x0) hs) shapeCasts_S16x1x512x512_S16x512x512 (ix3 b h w)
      = ((gX (reals (images x0 b) k) h w : ℝ) : EReal) := (chan_apply _ k hs b h w).trans (gx_reads b k h w (hf k).1)
theorem gy_chan (k : Fin 3) (hs : S16x3x512x512.Slices ![0, k.val, 0, 0] S16x1x512x512) (b : Fin 16) (h w : Fin 512) (hf : FineAt (images x0 b) h w) :
    shapeCast S16x512x512 (extractStridedSlice S16x1x512x512 ![0, k.val, 0, 0] (val_main_v55 x0) hs) shapeCasts_S16x1x512x512_S16x512x512 (ix3 b h w)
      = ((gY (reals (images x0 b) k) h w : ℝ) : EReal) := (chan_apply _ k hs b h w).trans (gy_reads b k h w (hf k).2)
theorem norm_chan_inf (k : Fin 3) (hs : S16x3x512x512.Slices ![0, k.val, 0, 0] S16x1x512x512) (b : Fin 16) (h w : Fin 512) (hf : ¬ Fine (images x0 b k) h w) :
    shapeCast S16x512x512 (extractStridedSlice S16x1x512x512 ![0, k.val, 0, 0] (val_main_v59 x0) hs) shapeCasts_S16x1x512x512_S16x512x512 (ix3 b h w)
      = (⊤ : EReal) := (chan_apply _ k hs b h w).trans (norm_inf b k h w hf)

variable (b : Fin 16) (h w : Fin 512)

section Fine
variable (hf : FineAt (images x0 b) h w)
include hf

/-- The greatest of a pixel's three lengths. -/
theorem longest_max : val_main_v67 x0 (ix3 b h w)
      = ((max (max (Real.sqrt (gS (reals (images x0 b) 0) h w)) (Real.sqrt (gS (reals (images x0 b) 1) h w)))
        (Real.sqrt (gS (reals (images x0 b) 2) h w)) : ℝ) : EReal) :=
  max_at (max_at (norm_chan 0 _ b h w hf) (norm_chan 1 _ b h w hf)) (norm_chan 2 _ b h w hf)

theorem longest_reads : val_main_v67 x0 (ix3 b h w) = ((bestNR (reals (images x0 b)) h w : ℝ) : EReal) := by
  rw [longest_max b h w hf, max_sqrt]
  rfl

/-- The horizontal part of the longest gradient. -/
theorem bestX_reads : val_main_v81 x0 (ix3 b h w) = ((bestXR (reals (images x0 b)) h w : ℝ) : EReal) := by
  unfold bestXR
  rw [← pick_sqrt _ _ _ _ _ _ (gS_nonneg _ _ _) (gS_nonneg _ _ _) (gS_nonneg _ _ _)]
  exact pick_at (oeq_at (norm_chan 0 _ b h w hf) (longest_max b h w hf)) (gx_chan 0 _ b h w hf)
    (pick_at (oeq_at (norm_chan 1 _ b h w hf) (longest_max b h w hf)) (gx_chan 1 _ b h w hf) (gx_chan 2 _ b h w hf))

/-- The vertical part of the longest gradient. -/
theorem bestY_reads : val_main_v89 x0 (ix3 b h w) = ((bestYR (reals (images x0 b)) h w : ℝ) : EReal) := by
  unfold bestYR
  rw [← pick_sqrt _ _ _ _ _ _ (gS_nonneg _ _ _) (gS_nonneg _ _ _) (gS_nonneg _ _ _)]
  exact pick_at (oeq_at (norm_chan 0 _ b h w hf) (longest_max b h w hf)) (gy_chan 0 _ b h w hf)
    (pick_at (oeq_at (norm_chan 1 _ b h w hf) (longest_max b h w hf)) (gy_chan 1 _ b h w hf) (gy_chan 2 _ b h w hf))

end Fine

theorem max_top {a b : Ideal .f32} (h : a = (⊤ : EReal) ∨ b = (⊤ : EReal)) : FloatOps.maximumf a b = (⊤ : EReal) := by
  rcases h with rfl | rfl
  · exact max_eq_left le_top
  · exact max_eq_right le_top

/-- The longest gradient is infinite where a gradient is. -/
theorem longest_inf (hf : ¬ FineAt (images x0 b) h w) : val_main_v67 x0 (ix3 b h w) = (⊤ : EReal) := by
  unfold FineAt at hf
  push Not at hf
  obtain ⟨c, hc⟩ := hf
  match c, hc with
  | ⟨0, _⟩, hc => exact max_top (Or.inl (max_top (Or.inl (norm_chan_inf 0 slices_S16x3x512x512_S16x1x512x512_0_0_0_0 b h w hc))))
  | ⟨1, _⟩, hc => exact max_top (Or.inl (max_top (Or.inr (norm_chan_inf 1 slices_S16x3x512x512_S16x1x512x512_0_1_0_0 b h w hc))))
  | ⟨2, _⟩, hc => exact max_top (Or.inr (norm_chan_inf 2 slices_S16x3x512x512_S16x1x512x512_0_2_0_0 b h w hc))

/-! ## The angle -/

/-- The half turn. -/
theorem pi_reads (i : S_.Idx) : val_main_v0 (F := Ideal) i = ((Real.pi : ℝ) : EReal) := by
  show Ideal.acos (Ideal.ofBits .f32 0xBF800000#32) = _
  rw [f32_m1, Ideal.acos_coe, if_pos (by norm_num), Real.arccos_neg_one]

/-- Bins to a radian. -/
theorem gain_reads (i : S_.Idx) : val_main_v1 (F := Ideal) i = ((9 / Real.pi : ℝ) : EReal) :=
  div_at f32_9 (pi_reads i) Real.pi_ne_zero

variable {i : S16x512x512.Idx} {X Y : ℝ}

theorem steep_tells (hX : val_main_v81 x0 i = (X : EReal)) (hY : val_main_v89 x0 i = (Y : EReal)) :
    val_main_v92 x0 i = 1#1 ↔ |X| < |Y| := ogt_at (abs_at hY) (abs_at hX)

/-- The arctangent of the quotient. -/
theorem arc_of {t : ℝ} (ht : val_main_v99 x0 i = (t : EReal)) : val_main_v119 x0 i = ((arc t : ℝ) : EReal) := by
  have hq : val_main_v100 x0 i = ((t * t : ℝ) : EReal) := mul_at ht ht
  exact mul_at ht (add_at (div_at f32_p0 f32_q0 (by norm_num)) (mul_at hq (add_at (div_at f32_p1 f32_q1 (by norm_num))
    (mul_at hq (add_at (div_at f32_p2 f32_q2 (by norm_num)) (mul_at hq (add_at (div_at f32_p3 f32_q2 (by norm_num))
      (mul_at hq (div_at f32_p4 f32_q4 (by norm_num))))))))))

/-- The quotient of the shorter part by the longer. -/
theorem ratio_reads (hX : val_main_v81 x0 i = (X : EReal)) (hY : val_main_v89 x0 i = (Y : EReal)) :
    val_main_v99 x0 i = (((if |X| < |Y| then X else Y)
      / (if (if |X| < |Y| then Y else X) = 0 then 1 else (if |X| < |Y| then Y else X)) : ℝ) : EReal) := by
  have hs := steep_tells hX hY
  have hd : val_main_v93 x0 i = (((if |X| < |Y| then Y else X : ℝ)) : EReal) := pick_at hs hY hX
  have hn : val_main_v94 x0 i = (((if |X| < |Y| then X else Y : ℝ)) : EReal) := pick_at hs hX hY
  generalize (if |X| < |Y| then Y else X) = den at hd ⊢
  generalize (if |X| < |Y| then X else Y) = num at hn ⊢
  exact div_at hn (pick_at (oeq_at hd f32_0) f32_1 hd) (by split_ifs with h; exacts [one_ne_zero, h])

theorem abs_inf {x : EReal} (h : Inf x) : max x (-x) = ⊤ := by
  rcases h with rfl | rfl <;> simp

theorem abs_fin {x : EReal} (h : ¬ Inf x) : max x (-x) < ⊤ := by
  rw [real_of_not_inf h, abs_real]
  exact EReal.coe_lt_top _

/-- Of two numbers, one infinite, the one of the greater absolute value is infinite. -/
theorem longer_inf {x y : EReal} (h : Inf x ∨ Inf y) :
    Inf (Scalar.select (BitVec.ofBool (decide (max x (-x) < max y (-y)))) y x) := by
  by_cases c : max x (-x) < max y (-y)
  · rw [(HogScalars.one_iff _).2 c, select_one]
    by_contra hy
    have hx := h.resolve_right hy
    rw [abs_inf hx] at c
    exact absurd c (not_lt.2 le_top)
  · rw [eq_zero_of_ne_one (mt (HogScalars.one_iff _).1 c), select_zero]
    by_contra hx
    have hy := h.resolve_left hx
    rw [abs_inf hy] at c
    exact c (abs_fin hx)

/-- A number divided by an infinite one, as the reference divides. -/
theorem over_inf {n d : EReal} (h : Inf d) : Ideal.div n (Scalar.select (BitVec.ofBool (decide (d = Ideal.ofBits .f32 0x00000000#32)))
    (Ideal.ofBits .f32 0x3F800000#32) d) = ((0 : ℝ) : EReal) := by
  have c : ¬ d = Ideal.ofBits .f32 0x00000000#32 := by
    rw [f32_0]; rintro rfl; exact not_inf_coe 0 h
  rw [eq_zero_of_ne_one (mt (HogScalars.one_iff _).1 c), select_zero]
  unfold Ideal.div
  rcases h with rfl | rfl
  · rw [if_neg (by simp), EReal.inv_top, mul_zero]; rfl
  · rw [if_neg (by simp), EReal.inv_bot, mul_zero]; rfl

/-- The quotient where a part is infinite. -/
theorem ratio_inf (h : Inf (val_main_v81 x0 i) ∨ Inf (val_main_v89 x0 i)) : val_main_v99 x0 i = ((0 : ℝ) : EReal) := by
  have hd : Inf (val_main_v93 x0 i) := by
    rw [val_main_v93_apply, val_main_v92_apply, val_main_v90_apply, val_main_v91_apply]
    generalize val_main_v81 x0 i = x at h ⊢
    generalize val_main_v89 x0 i = y at h ⊢
    exact longer_inf h
  rw [val_main_v99_apply, val_main_v98_apply, val_main_v96_apply]
  generalize val_main_v93 x0 i = d at hd ⊢
  exact over_inf hd

theorem half_pi_reads : val_main_v121 (F := Ideal) i = ((Real.pi / 2 : ℝ) : EReal) :=
  (val_main_v121_apply i).trans (div_at (pi_reads _) f32_2 (by norm_num))

/-- The angle. -/
theorem angle_reads (hX : val_main_v81 x0 i = (X : EReal)) (hY : val_main_v89 x0 i = (Y : EReal)) :
    val_main_v138 x0 i = ((angle X Y : ℝ) : EReal) := by
  have hs := steep_tells hX hY
  have ha := arc_of (ratio_reads hX hY)
  have hpi : val_main_v133 (F := Ideal) i = ((Real.pi : ℝ) : EReal) := (val_main_v133_apply i).trans (pi_reads _)
  have hh : val_main_v121 (F := Ideal) i = ((Real.pi / 2 : ℝ) : EReal) :=
    (val_main_v121_apply i).trans (div_at (pi_reads _) f32_2 (by norm_num))
  have half := pick_at hs (sub_at (pick_at (ogt_at hY f32_0) hh (neg_at hh)) ha) ha
  exact pick_at (or_at hs (oge_at hX f32_0)) half (pick_at (oge_at hY f32_0) (add_at half hpi) (sub_at half hpi))

/-- The angle where a part is infinite is some real number. -/
theorem angle_inf (h : Inf (val_main_v81 x0 i) ∨ Inf (val_main_v89 x0 i)) : ∃ θ : ℝ, val_main_v138 x0 i = (θ : EReal) := by
  have ha := arc_of (ratio_inf h)
  have hpi : val_main_v133 (F := Ideal) i = ((Real.pi : ℝ) : EReal) := (val_main_v133_apply i).trans (pi_reads _)
  have hh : val_main_v121 (F := Ideal) i = ((Real.pi / 2 : ℝ) : EReal) := half_pi_reads
  have half := pick_at (c := val_main_v92 x0 i) Iff.rfl (sub_at (pick_at (c := val_main_v123 x0 i) Iff.rfl hh (neg_at hh)) ha) ha
  exact ⟨_, pick_at (c := val_main_v130 x0 i) Iff.rfl half (pick_at (c := val_main_v132 x0 i) Iff.rfl (add_at half hpi) (sub_at half hpi))⟩

/-- The angle is always a real number. -/
theorem angle_any (i : S16x512x512.Idx) : ∃ θ : ℝ, val_main_v138 x0 i = (θ : EReal) := by
  by_cases h : Inf (val_main_v81 x0 i) ∨ Inf (val_main_v89 x0 i)
  · exact angle_inf h
  · obtain ⟨hx, hy⟩ := not_or.1 h
    exact ⟨_, angle_reads (real_of_not_inf hx) (real_of_not_inf hy)⟩

/-- An angle modulo a half turn, in bins. -/
def phase (θ : ℝ) : ℝ := 9 / Real.pi * (θ - Real.pi * (⌊θ / Real.pi⌋ : ℤ))

theorem phase_bounds (θ : ℝ) : 0 ≤ phase θ ∧ phase θ < 9 := by
  have hpi := Real.pi_pos.ne'
  have e : phase θ = 9 * Int.fract (θ / Real.pi) := by
    unfold phase Int.fract
    field_simp
  have f0 := Int.fract_nonneg (θ / Real.pi)
  have f1 := Int.fract_lt_one (θ / Real.pi)
  rw [e]
  constructor <;> linarith

variable {θ : ℝ}

theorem phase_reads (ha : val_main_v138 x0 i = (θ : EReal)) :
    val_main_v144 x0 i = ((θ - Real.pi * (⌊θ / Real.pi⌋ : ℤ) : ℝ) : EReal) := by
  have hpi : val_main_v139 (F := Ideal) i = ((Real.pi : ℝ) : EReal) := (val_main_v139_apply i).trans (pi_reads _)
  exact sub_at ha (mul_at hpi (floor_at (div_at ha hpi Real.pi_ne_zero)))

theorem coord_reads (ha : val_main_v138 x0 i = (θ : EReal)) : val_main_v146 x0 i = ((phase θ : ℝ) : EReal) :=
  mul_at ((val_main_v145_apply i).trans (gain_reads _)) (phase_reads ha)

end Cert.HogRef
-- ==== Proof.RefVotes.lean ====
/- The reference's votes and histograms, entry by entry. -/
module

public import proofs.«01_k».proof.Proof.RefAngle

@[expose] public section

noncomputable section

namespace Cert.HogRef

open Idealize.ShloMosaic Idealize.ShloMosaic.ValueIdx Cert.ReferenceIdeal Cert.ReferenceIdeal.Gen Cert.ReferenceIdeal.Read Cert.HogSpec Cert.HogScalars Cert.HogWords

variable {x0 : Vec Ideal S16x3x512x512 .f32}

/-- A coordinate's whole part is one of nine numbers. -/
theorem floor_nine (c : ℝ) (h0 : 0 ≤ c) (h9 : c < 9) : ∃ n : Fin 9, ⌊c⌋ = (n.val : ℤ) := by
  have f0 : 0 ≤ ⌊c⌋ := Int.floor_nonneg.2 h0
  have f9 : ⌊c⌋ < 9 := Int.floor_lt.2 (by exact_mod_cast h9)
  exact ⟨⟨⌊c⌋.toNat, by omega⟩, (Int.toNat_of_nonneg f0).symm⟩

/-- The word of a whole number from 0 to 8. -/
theorem word_at {a : Ideal .f32} (n : Fin 9) (ha : a = (((n.val : ℤ) : ℝ) : EReal)) : FloatOps.fptosi 32 a = BitVec.ofNat 32 n.val := by
  subst ha
  show BitVec.ofInt 32 (max _ (min _ (if 0 ≤ ((n.val : ℤ) : ℝ) then ⌊((n.val : ℤ) : ℝ)⌋ else ⌈((n.val : ℤ) : ℝ)⌉))) = _
  rw [Int.floor_intCast, Int.ceil_intCast, ite_self]
  revert n
  decide

theorem toInt_nine (n : Fin 9) : (BitVec.ofNat 32 n.val).toInt = (n.val : ℤ) := by revert n; decide

/-- Comparing the remainder of the word by nine with a bin's word. -/
theorem bin_at (n k : Fin 9) :
    IntOp.cmpi .eq (IntOp.remsi .host (BitVec.ofNat 32 n.val) 9#32) (BitVec.ofNat 32 k.val) = 1#1 ↔ (n.val : ℤ) % 9 = (k.val : ℤ) := by
  revert n k; decide +kernel
theorem next_at (n k : Fin 9) :
    IntOp.cmpi .eq (IntOp.remsi .host (IntOp.addi (BitVec.ofNat 32 n.val) 1#32) 9#32) (BitVec.ofNat 32 k.val) = 1#1
      ↔ ((n.val : ℤ) + 1) % 9 = (k.val : ℤ) := by
  revert n k; decide +kernel

section Pixel
variable {i : S16x512x512.Idx} {θ : ℝ}

theorem left_reads (ha : val_main_v138 x0 i = (θ : EReal)) (n : Fin 9)
    (hn : ⌊phase θ⌋ = (n.val : ℤ)) : val_main_v148 x0 i = BitVec.ofNat 32 n.val :=
  word_at n (by rw [← hn]; exact floor_at (coord_reads ha))

/-- The share of the next bin. -/
theorem share_reads (ha : val_main_v138 x0 i = (θ : EReal)) :
    val_main_v156 x0 i = ((phase θ - ⌊phase θ⌋ : ℝ) : EReal) := by
  obtain ⟨h0, h9⟩ := phase_bounds θ
  obtain ⟨n, hn⟩ := floor_nine _ h0 h9
  have hl : val_main_v149 x0 i = (((⌊phase θ⌋ : ℤ) : ℝ) : EReal) := by
    rw [val_main_v149_apply, left_reads ha n hn, hn]
    show (((BitVec.ofNat 32 n.val).toInt : ℝ) : EReal) = _
    rw [toInt_nine]
  have hpi : val_main_v150 (F := Ideal) i = ((Real.pi : ℝ) : EReal) := (val_main_v150_apply i).trans (pi_reads _)
  have hb : val_main_v153 x0 i = (((⌊phase θ⌋ : ℤ) : ℝ) * Real.pi / 9 : ℝ) := div_at (mul_at hl hpi) f32_9 (by norm_num)
  have hg : val_main_v155 (F := Ideal) i = ((9 / Real.pi : ℝ) : EReal) := (val_main_v155_apply i).trans (gain_reads _)
  refine (mul_at hg (sub_at (phase_reads ha) hb)).trans (congrArg _ ?_)
  generalize ⌊phase θ⌋ = f
  unfold phase
  have := Real.pi_ne_zero
  field_simp

theorem low_reads (ha : val_main_v138 x0 i = (θ : EReal)) :
    val_main_v159 x0 i = ((1 - (phase θ - ⌊phase θ⌋) : ℝ) : EReal) * val_main_v67 x0 i :=
  mulE (sub_at f32_1 (share_reads ha)) rfl
theorem high_reads (ha : val_main_v138 x0 i = (θ : EReal)) :
    val_main_v160 x0 i = ((phase θ - ⌊phase θ⌋ : ℝ) : EReal) * val_main_v67 x0 i :=
  mulE (share_reads ha) rfl
end Pixel

/-- An array without the bins, read at a pixel and a bin. -/
theorem spread_apply {α : Type} (v : S16x512x512.Idx → α) (b : Fin 16) (h w : Fin 512) (k : Fin 9) :
    broadcastInDim S16x512x512x9 ![0, 1, 2] bcast_S16x512x512_S16x512x512x9_0_1_2 v (ix4 b h w k) = v (ix3 b h w) :=
  broadcastInDim_apply _ _ v _ (ix3 b h w) (fun a => match a with
    | ⟨0, _⟩ => by show b.val = if (16 : Nat) = 1 then 0 else b.val; rw [if_neg (by decide)]
    | ⟨1, _⟩ => by show h.val = if (512 : Nat) = 1 then 0 else h.val; rw [if_neg (by decide)]
    | ⟨2, _⟩ => by show w.val = if (512 : Nat) = 1 then 0 else w.val; rw [if_neg (by decide)])

/-- What a length n, perhaps infinite, at coordinate c gives to bin k, as the reference counts it. -/
def voteF (c : ℝ) (n : EReal) (k : Fin 9) : EReal :=
  (if ⌊c⌋ % 9 = (k.val : ℤ) then ((1 - (c - ⌊c⌋) : ℝ) : EReal) * n else 0)
    + (if (⌊c⌋ + 1) % 9 = (k.val : ℤ) then ((c - ⌊c⌋ : ℝ) : EReal) * n else 0)

theorem voteF_real (c n : ℝ) (k : Fin 9) : voteF c (n : EReal) k = ((voteR c n k : ℝ) : EReal) := by
  unfold voteF voteR
  rw [EReal.coe_add]
  congr 1 <;> split_ifs <;> first | exact (EReal.coe_mul _ _).symm | exact EReal.coe_zero.symm

theorem voteF_top (c : ℝ) (h0 : 0 ≤ c) (h9 : c < 9) : ∃ k, Inf (voteF c ⊤ k) := by
  obtain ⟨n, hn⟩ := floor_nine c h0 h9
  refine ⟨n, ?_⟩
  unfold voteF
  have := Int.lt_floor_add_one c
  rw [if_pos (by rw [hn]; omega), inf_add, HogSpec.inf_mul (by linarith)]
  exact Or.inl (Or.inl rfl)

/-- A choice by a bit, of numbers that may be infinite. -/
theorem pickE_at {c : BitVec 1} {P : Prop} [Decidable P] {a b : Ideal .f32} {p q : EReal} (hc : c = 1#1 ↔ P) (ha : a = p) (hb : b = q) :
    Scalar.select c a b = if P then p else q := by
  by_cases h : P
  · rw [if_pos h, hc.2 h, select_one, ha]
  · rw [if_neg h, eq_zero_of_ne_one (mt hc.1 h), select_zero, hb]

/-- A pixel's vote for a bin. -/
theorem vote_apply (b : Fin 16) (h w : Fin 512) (k : Fin 9) {θ : ℝ} (ha : val_main_v138 x0 (ix3 b h w) = (θ : EReal)) :
    val_main_v179 x0 (ix4 b h w k) = voteF (phase θ) (val_main_v67 x0 (ix3 b h w)) k := by
  obtain ⟨h0, h9⟩ := phase_bounds θ
  obtain ⟨n, hn⟩ := floor_nine _ h0 h9
  have hl := left_reads ha n hn
  have c1 : val_main_v165 x0 (ix4 b h w k) = 1#1 ↔ ⌊phase θ⌋ % 9 = (k.val : ℤ) := by
    have e : val_main_v165 x0 (ix4 b h w k) = IntOp.cmpi .eq (IntOp.remsi .host (BitVec.ofNat 32 n.val) 9#32) (BitVec.ofNat 32 k.val) := by
      refine Eq.trans (congrArg (fun z => IntOp.cmpi .eq z (BitVec.ofNat 32 k.val)) (spread_apply (val_main_v163 x0) b h w k)) ?_
      beta_reduce
      rw [val_main_v163_apply, hl]
      rfl
    rw [hn, ← bin_at, e]
  have c2 : val_main_v175 x0 (ix4 b h w k) = 1#1 ↔ (⌊phase θ⌋ + 1) % 9 = (k.val : ℤ) := by
    have e : val_main_v175 x0 (ix4 b h w k)
        = IntOp.cmpi .eq (IntOp.remsi .host (IntOp.addi (BitVec.ofNat 32 n.val) 1#32) 9#32) (BitVec.ofNat 32 k.val) := by
      refine Eq.trans (congrArg (fun z => IntOp.cmpi .eq z (BitVec.ofNat 32 k.val)) (spread_apply (val_main_v173 x0) b h w k)) ?_
      beta_reduce
      rw [val_main_v173_apply, val_main_v170_apply, hl]
      rfl
    rw [hn, ← next_at, e]
  have z : Ideal.ofBits .f32 0x00000000#32 = (0 : EReal) := f32_0.trans EReal.coe_zero
  exact addE (pickE_at c1 ((spread_apply _ b h w k).trans (low_reads ha)) z)
    (pickE_at c2 ((spread_apply _ b h w k).trans (high_reads ha)) z)

/-- The votes of an image. -/
theorem votes_of (b : Fin 16) : VotesOf (images x0 b) (fun k h w => val_main_v179 x0 (ix4 b h w k)) := by
  intro h w
  constructor
  · intro hf k
    beta_reduce
    rw [vote_apply b h w k (angle_reads (bestX_reads b h w hf) (bestY_reads b h w hf)), longest_reads b h w hf, voteF_real]
    unfold phase
    rw [phase_eq]
    rfl
  · intro hf
    obtain ⟨θ, ha⟩ := angle_any (x0 := x0) (ix3 b h w)
    obtain ⟨h0, h9⟩ := phase_bounds θ
    obtain ⟨k, hk⟩ := voteF_top _ h0 h9
    refine ⟨k, ?_⟩
    beta_reduce
    rw [vote_apply b h w k ha, longest_inf b h w hf]
    exact hk

/-- A float sum that starts at zero. -/
theorem sum_at {n : ℕ} {z : EReal} {f g : Fin n → EReal} (hz : z = ((0 : ℝ) : EReal)) (h : ∀ k, f k = g k) : z + ∑ k, f k = ∑ k, g k := by
  rw [hz, funext h, EReal.coe_zero, zero_add]

/-- The sum of a cell's sixteen rows in one column. -/
theorem rows_sum (b : Fin 16) (i : Fin 32) (w : Fin 512) (k : Fin 9) :
    val_main_v181 x0 (ix4 b i w k) = ∑ r : Fin 16, (val_main_v179 x0 (ix4 b (inCell i r) w k) : EReal) := by
  refine (val_main_v181_apply x0 _).trans (sum_at f32_0 fun r => ?_)
  refine Eq.trans (congrArg (val_main_v180 x0) (show idx_main_v181 (ix4 b i w k) r = ix5 b i r w k from
    funext fun a => match a with | ⟨0, _⟩ => rfl | ⟨1, _⟩ => rfl | ⟨2, _⟩ => rfl | ⟨3, _⟩ => rfl | ⟨4, _⟩ => rfl)) ?_
  refine shapeCast_apply _ _ _ (ix4 b (inCell i r) w k) ?_
  refine Eq.trans (Shape.rowMajor_val_four _) (Eq.trans ?_ (Shape.rowMajor_val_five _).symm)
  show ((b.val * 512 + (i.val * 16 + r.val)) * 512 + w.val) * 9 + k.val = (((b.val * 32 + i.val) * 16 + r.val) * 512 + w.val) * 9 + k.val
  ring

/-- The histogram of a cell. -/
theorem hist_apply (b : Fin 16) (i j : Fin 32) (k : Fin 9) : val_main_v185 x0 (ix4 b i j k)
    = (∑ c : Fin 16, ∑ r : Fin 16, (val_main_v179 x0 (ix4 b (inCell i r) (inCell j c) k) : EReal)) * ((1 / 256 : ℝ) : EReal) := by
  have hs : val_main_v183 x0 (ix4 b i j k) = ∑ c : Fin 16, ∑ r : Fin 16, (val_main_v179 x0 (ix4 b (inCell i r) (inCell j c) k) : EReal) := by
    refine (val_main_v183_apply x0 _).trans (sum_at f32_0 fun c => ?_)
    refine Eq.trans (congrArg (val_main_v182 x0) (show idx_main_v183 (ix4 b i j k) c = ix5 b i j c k from
      funext fun a => match a with | ⟨0, _⟩ => rfl | ⟨1, _⟩ => rfl | ⟨2, _⟩ => rfl | ⟨3, _⟩ => rfl | ⟨4, _⟩ => rfl)) ?_
    refine Eq.trans (shapeCast_apply _ _ _ (ix4 b i (inCell j c) k) ?_) (rows_sum b i _ k)
    refine Eq.trans (Shape.rowMajor_val_four _) (Eq.trans ?_ (Shape.rowMajor_val_five _).symm)
    show ((b.val * 32 + i.val) * 512 + (j.val * 16 + c.val)) * 9 + k.val = (((b.val * 32 + i.val) * 32 + j.val) * 16 + c.val) * 9 + k.val
    ring
  show Ideal.div (val_main_v183 x0 (ix4 b i j k)) (Ideal.ofBits .f32 0x43800000#32) = _
  rw [hs, f32_256, Ideal.div_coe (by norm_num)]

/-- The histograms of an image. -/
theorem cells_of (b : Fin 16) : CellsOf (images x0 b) (fun k i j => val_main_v185 x0 (ix4 b i j k)) :=
  cells_of_votes (votes_of b) fun k i j => hist_apply b i j k

end Cert.HogRef
-- ==== Proof.RefBlocks.lean ====
/- The reference's blocks and its result, entry by entry. -/
module

public import proofs.«01_k».proof.Proof.RefVotes
public import Idealize.ShloMosaic.Lib.ValueIdxRank6

@[expose] public section

noncomputable section

namespace Cert.HogRef

open Idealize.ShloMosaic Idealize.ShloMosaic.ValueIdx Cert.ReferenceIdeal Cert.ReferenceIdeal.Gen Cert.ReferenceIdeal.Read Cert.HogSpec Cert.HogScalars Cert.HogWords

variable {x0 : Vec Ideal S16x3x512x512 .f32}

/-- Cell (u, v) of every block. -/
theorem corner_apply (u v : Fin 2) (hs : S16x32x32x9.Slices ![0, u.val, v.val, 0] S16x31x31x9)
    (b : Fin 16) (y x : Fin 31) (k : Fin 9) :
    extractStridedSlice S16x31x31x9 ![0, u.val, v.val, 0] (val_main_v185 x0) hs (ix4 b y x k)
      = val_main_v185 x0 (ix4 b (inBlock y u) (inBlock x v) k) := by
  exact extractStridedSlice_apply _ (val_main_v185 x0) _ _ (ix4 b (inBlock y u) (inBlock x v) k) (fun a => match a with
    | ⟨0, _⟩ => (Nat.zero_add _).symm
    | ⟨1, _⟩ => Nat.add_comm y.val u.val
    | ⟨2, _⟩ => Nat.add_comm x.val v.val
    | ⟨3, _⟩ => (Nat.zero_add _).symm)

/-- Two arrays stacked on a new axis before the last, read. -/
theorem pair_apply {α : Type} (l r : S16x31x31x9.Idx → α) (b : Fin 16) (y x : Fin 31) (v : Fin 2) (k : Fin 9) :
    concatenate S16x31x31x2x9 3
      [⟨S16x31x31x1x9, broadcastInDim S16x31x31x1x9 ![0, 1, 2, 4] bcast_S16x31x31x9_S16x31x31x1x9_0_1_2_4 l⟩,
       ⟨S16x31x31x1x9, broadcastInDim S16x31x31x1x9 ![0, 1, 2, 4] bcast_S16x31x31x9_S16x31x31x1x9_0_1_2_4 r⟩]
      concatenates_S16x31x31x1x9_S16x31x31x1x9_S16x31x31x2x9_d3 (ix5 b y x v k) = if v = 0 then l (ix4 b y x k) else r (ix4 b y x k) := by
  have unit : ∀ s : S16x31x31x9.Idx → α,
      broadcastInDim S16x31x31x1x9 ![0, 1, 2, 4] bcast_S16x31x31x9_S16x31x31x1x9_0_1_2_4 s (ix5 b y x (0 : Fin 1) k) = s (ix4 b y x k) :=
    fun s => broadcastInDim_apply _ _ s _ (ix4 b y x k) (fun a => match a with
      | ⟨0, _⟩ => by show b.val = if (16 : Nat) = 1 then 0 else b.val; rw [if_neg (by decide)]
      | ⟨1, _⟩ => by show y.val = if (31 : Nat) = 1 then 0 else y.val; rw [if_neg (by decide)]
      | ⟨2, _⟩ => by show x.val = if (31 : Nat) = 1 then 0 else x.val; rw [if_neg (by decide)]
      | ⟨3, _⟩ => by show k.val = if (9 : Nat) = 1 then 0 else k.val; rw [if_neg (by decide)])
  match v with
  | ⟨0, _⟩ =>
    rw [concatenate_pair_apply_left (t := S16x31x31x2x9) (s₁ := S16x31x31x1x9) (s₂ := S16x31x31x1x9) 3 _ _ _ _ rfl
      (ix5 (n0 := 16) (n1 := 31) (n2 := 31) (n3 := 1) (n4 := 9) b y x 0 k)
      (fun a => match a with | ⟨0, _⟩ => rfl | ⟨1, _⟩ => rfl | ⟨2, _⟩ => rfl | ⟨3, _⟩ => rfl | ⟨4, _⟩ => rfl)]
    exact unit l
  | ⟨1, _⟩ =>
    rw [concatenate_pair_apply_right (t := S16x31x31x2x9) (s₁ := S16x31x31x1x9) (s₂ := S16x31x31x1x9) 3 _ _ _ _ rfl rfl
      (ix5 (n0 := 16) (n1 := 31) (n2 := 31) (n3 := 1) (n4 := 9) b y x 0 k)
      (fun a => match a with | ⟨0, _⟩ => fun _ => rfl | ⟨1, _⟩ => fun _ => rfl | ⟨2, _⟩ => fun _ => rfl | ⟨3, _⟩ => fun hb => absurd rfl hb | ⟨4, _⟩ => fun _ => rfl)
      rfl]
    exact unit r

/-- A row of a block: its two cells. -/
theorem top_apply (b : Fin 16) (y x : Fin 31) (v : Fin 2) (k : Fin 9) :
    val_main_v192 x0 (ix5 b y x v k) = val_main_v185 x0 (ix4 b (inBlock y 0) (inBlock x v) k) := by
  refine (pair_apply (val_main_v186 x0) (val_main_v187 x0) b y x v k).trans ?_
  match v with
  | ⟨0, _⟩ => exact corner_apply 0 0 slices_S16x32x32x9_S16x31x31x9_0_0_0_0 b y x k
  | ⟨1, _⟩ => exact corner_apply 0 1 slices_S16x32x32x9_S16x31x31x9_0_0_1_0 b y x k
@[inherit_doc top_apply] theorem bottom_apply (b : Fin 16) (y x : Fin 31) (v : Fin 2) (k : Fin 9) :
    val_main_v195 x0 (ix5 b y x v k) = val_main_v185 x0 (ix4 b (inBlock y 1) (inBlock x v) k) := by
  refine (pair_apply (val_main_v188 x0) (val_main_v189 x0) b y x v k).trans ?_
  match v with
  | ⟨0, _⟩ => exact corner_apply 1 0 slices_S16x32x32x9_S16x31x31x9_0_1_0_0 b y x k
  | ⟨1, _⟩ => exact corner_apply 1 1 slices_S16x32x32x9_S16x31x31x9_0_1_1_0 b y x k

/-- A block. -/
theorem block_apply (b : Fin 16) (y x : Fin 31) (u v : Fin 2) (k : Fin 9) :
    val_main_v198 x0 (ix6 b y x u v k) = val_main_v185 x0 (ix4 b (inBlock y u) (inBlock x v) k) := by
  have unit : ∀ s : S16x31x31x2x9.Idx → EReal,
      broadcastInDim S16x31x31x1x2x9 ![0, 1, 2, 4, 5] bcast_S16x31x31x2x9_S16x31x31x1x2x9_0_1_2_4_5 s (ix6 b y x (0 : Fin 1) v k) = s (ix5 b y x v k) :=
    fun s => broadcastInDim_apply _ _ s _ (ix5 b y x v k) (fun a => match a with
      | ⟨0, _⟩ => by show b.val = if (16 : Nat) = 1 then 0 else b.val; rw [if_neg (by decide)]
      | ⟨1, _⟩ => by show y.val = if (31 : Nat) = 1 then 0 else y.val; rw [if_neg (by decide)]
      | ⟨2, _⟩ => by show x.val = if (31 : Nat) = 1 then 0 else x.val; rw [if_neg (by decide)]
      | ⟨3, _⟩ => by show v.val = if (2 : Nat) = 1 then 0 else v.val; rw [if_neg (by decide)]
      | ⟨4, _⟩ => by show k.val = if (9 : Nat) = 1 then 0 else k.val; rw [if_neg (by decide)])
  unfold val_main_v198
  match u with
  | ⟨0, _⟩ =>
    rw [concatenate_pair_apply_left (t := S16x31x31x2x2x9) (s₁ := S16x31x31x1x2x9) (s₂ := S16x31x31x1x2x9) 3 _ _ _ _ rfl
      (ix6 (n0 := 16) (n1 := 31) (n2 := 31) (n3 := 1) (n4 := 2) (n5 := 9) b y x 0 v k)
      (fun a => match a with | ⟨0, _⟩ => rfl | ⟨1, _⟩ => rfl | ⟨2, _⟩ => rfl | ⟨3, _⟩ => rfl | ⟨4, _⟩ => rfl | ⟨5, _⟩ => rfl)]
    exact (unit _).trans (top_apply b y x v k)
  | ⟨1, _⟩ =>
    rw [concatenate_pair_apply_right (t := S16x31x31x2x2x9) (s₁ := S16x31x31x1x2x9) (s₂ := S16x31x31x1x2x9) 3 _ _ _ _ rfl rfl
      (ix6 (n0 := 16) (n1 := 31) (n2 := 31) (n3 := 1) (n4 := 2) (n5 := 9) b y x 0 v k)
      (fun a => match a with | ⟨0, _⟩ => fun _ => rfl | ⟨1, _⟩ => fun _ => rfl | ⟨2, _⟩ => fun _ => rfl | ⟨3, _⟩ => fun hb => absurd rfl hb | ⟨4, _⟩ => fun _ => rfl | ⟨5, _⟩ => fun _ => rfl)
      rfl]
    exact (unit _).trans (bottom_apply b y x v k)

/-! ## Bringing blocks to length 1 -/

abbrev Blocks := FVec Ideal S16x31x31x2x2x9 .f32

/-- The squared length of every block, one axis after another. -/
def squared (a : Blocks) : FVec Ideal S16x31x31 .f32 :=
  Host.reduceAdd (Host.reduceAdd (Host.reduceAdd (mulf a a) (constant S_ .f32 0x00000000#32) reducesTo_S16x31x31x2x2x9_S16x31x31x2x2_d5 h_S_)
    (constant S_ .f32 0x00000000#32) reducesTo_S16x31x31x2x2_S16x31x31x2_d4 h_S_)
    (constant S_ .f32 0x00000000#32) reducesTo_S16x31x31x2_S16x31x31_d3 h_S_

/-- Every block divided by its length. -/
def unit (a : Blocks) : Blocks :=
  Host.divf a (broadcastInDim S16x31x31x2x2x9 ![0, 1, 2] bcast_S16x31x31_S16x31x31x2x2x9_0_1_2
    (addf (Host.sqrt (squared a)) (broadcastInDim S16x31x31 ![] bcast_S_S16x31x31 (constant S_ .f32 0x2EDBE6FF#32))))

/-- One block of the array. -/
def blockE (a : Blocks) (b : Fin 16) (y x : Fin 31) (u v : Fin 2) (k : Fin 9) : EReal := a (ix6 b y x u v k)

theorem squared_apply (a : Blocks) (b : Fin 16) (y x : Fin 31) : squared a (ix3 b y x) = lenE (blockE a b y x) := by
  unfold squared
  simp only [Host.reduceAdd, Ideal.hostReduceAdd_def]
  rw [Ideal.hostReduceAdd_single reducesTo_S16x31x31x2_S16x31x31_d3 (by decide)]
  refine sum_at f32_0 fun u => ?_
  rw [Ideal.hostReduceAdd_single reducesTo_S16x31x31x2x2_S16x31x31x2_d4 (by decide)]
  refine sum_at f32_0 fun v => ?_
  rw [Ideal.hostReduceAdd_single reducesTo_S16x31x31x2x2x9_S16x31x31x2x2_d5 (by decide)]
  refine sum_at f32_0 fun k => ?_
  exact congrArg (mulf a a) (a₂ := ix6 b y x (show Fin 2 from u) (show Fin 2 from v) (show Fin 9 from k)) (funext fun c => Fin.ext (by
    match c with | ⟨0, _⟩ => rfl | ⟨1, _⟩ => rfl | ⟨2, _⟩ => rfl | ⟨3, _⟩ => rfl | ⟨4, _⟩ => rfl | ⟨5, _⟩ => rfl))

theorem unit_apply (a : Blocks) (b : Fin 16) (y x : Fin 31) (u v : Fin 2) (k : Fin 9) :
    unit a (ix6 b y x u v k) = Ideal.div (blockE a b y x u v k) (Ideal.sqrt (lenE (blockE a b y x)) + ((tiny : ℝ) : EReal)) := by
  refine congrArg (Ideal.div (a (ix6 b y x u v k))) ?_
  refine Eq.trans (broadcastInDim_apply _ _ _ _ (ix3 b y x) (fun c => match c with
      | ⟨0, _⟩ => by show b.val = if (16 : Nat) = 1 then 0 else b.val; rw [if_neg (by decide)]
      | ⟨1, _⟩ => by show y.val = if (31 : Nat) = 1 then 0 else y.val; rw [if_neg (by decide)]
      | ⟨2, _⟩ => by show x.val = if (31 : Nat) = 1 then 0 else x.val; rw [if_neg (by decide)])) ?_
  exact addE (congrArg Ideal.sqrt (squared_apply a b y x)) f32_tiny

/-- The reference's blocks, before the unit axis, are the images' normalised blocks. -/
theorem result_reads (b : Fin 16) (y x : Fin 31) (u v : Fin 2) (k : Fin 9) :
    val_main_v218 x0 (ix6 b y x u v k) = ((hogE (images x0 b) y x u v k : ℝ) : EReal) := by
  have hb : BlockOf (images x0 b) y x (blockE (val_main_v198 x0) b y x) := by
    have e : blockE (val_main_v198 x0) b y x = fun u v k => val_main_v185 x0 (ix4 b (inBlock y u) (inBlock x v) k) :=
      funext fun u => funext fun v => funext fun k => block_apply b y x u v k
    rw [e]
    exact block_of_cells (cells_of b) y x
  have cut : ∀ u v k, blockE (val_main_v209 x0) b y x u v k = ((cutE (images x0 b) y x u v k : ℝ) : EReal) := fun u v k => by
    refine Eq.trans ?_ (clip_div hb u v k)
    exact congrArg₂ min (unit_apply (val_main_v198 x0) b y x u v k) f32_cut
  refine (unit_apply (val_main_v209 x0) b y x u v k).trans ?_
  rw [cut, lenE_real cut, sqrt_real _ (lenSq_nonneg _), ← EReal.coe_add, div_real _ _ (len_pos _).ne']
  rfl

end Cert.HogRef
-- ==== Proof.Equation.lean ====
/- The equation of the kernel and the reference over the extended reals. -/
module

public import proofs.«01_k».proof.Defs
public import proofs.«01_k».proof.Proof.Result
public import proofs.«01_k».proof.Proof.RefBlocks
public import Idealize.ShloMosaic.Lib.Claim

@[expose] public section

noncomputable section

namespace Cert.HogEquation

open Idealize.ShloMosaic Idealize.ShloMosaic.ValueIdx Idealize.SL.Sem Cert.HogSpec

/-- The reference's result is the blocks of the images. -/
theorem reference_value (x0 : Vec Ideal Cert.ReferenceIdeal.S16x3x512x512 .f32) :
    Cert.ReferenceIdeal.Read.val_main_v219 x0
      = shapeCast Cert.KernelIdeal.S16x1x31x31x2x2x9 (HogResult.blocks (HogRef.images x0))
          Cert.KernelIdeal.Gen.shapeCasts_S16x31x31x2x2x9_S16x1x31x31x2x2x9 := by
  have e : Cert.ReferenceIdeal.Read.val_main_v218 x0 = HogResult.blocks (HogRef.images x0) := by
    funext i
    rw [ValueIdx.eq_ix6 i]
    exact HogRef.result_reads (i 0) (i 1) (i 2) (i 3) (i 4) (i 5)
  unfold Cert.ReferenceIdeal.Read.val_main_v219
  rw [e]

/-- From equal images the kernel and the reference end with equal results and unchanged images. -/
theorem equation : Cert.algebraic_KernelIdeal_ReferenceIdeal := by
  intro m g m' g' hpre heq
  refine ⟨fun c => shapeCast Cert.KernelIdeal.S16x1x31x31x2x2x9 (HogResult.blocks (HogRef.images (HogArray.arg m c)))
      Cert.KernelIdeal.Gen.shapeCasts_S16x31x31x2x2x9_S16x1x31x31x2x2x9,
    HogResult.run m g (fun c => HogRef.images (HogArray.arg m c)) (fun _ _ _ _ _ => rfl), ?_⟩
  refine (θ_run Cert.ReferenceIdeal.defs _ _).mono (fun r h c => ⟨?_, (h c).2⟩) (Cert.ReferenceIdeal.Value.run m' g')
  refine (h c).1.trans ((Cert.ReferenceIdeal.Read.val_main_v219_eq _).trans ?_)
  refine Eq.trans (congrArg _ (heq c)) ?_
  exact reference_value _

end Cert.HogEquation
-- ==== Proof.Within.lean ====
/- No entry of the kernel's result exceeds 1 in absolute value: each is an entry of a block divided by more than the block's length. -/
module

public import proofs.«01_k».proof.Defs
public import proofs.«01_k».proof.Proof.Equation

@[expose] public section

noncomputable section

namespace Cert.HogWithin

open Idealize.ShloMosaic Idealize.ShloMosaic.ValueIdx Idealize.SL.Sem Cert.HogSpec

/-- The fact the predicate states: its one constant is broadcast over the result. -/
instance facts : Cert.Post_within_one.Facts where
  bcast_S_S16x1x31x31x2x2x9 := by decide

/-- An entry's square is at most the block's squared length. -/
theorem sq_le_len (x : Fin 2 → Fin 2 → Fin 9 → ℝ) (u v : Fin 2) (k : Fin 9) : x u v k * x u v k ≤ lenSq x := by
  have hk : x u v k * x u v k ≤ ∑ k : Fin 9, x u v k * x u v k :=
    Finset.single_le_sum (f := fun k => x u v k * x u v k) (fun k _ => mul_self_nonneg (x u v k)) (Finset.mem_univ k)
  have hv : (∑ k : Fin 9, x u v k * x u v k) ≤ ∑ v : Fin 2, ∑ k : Fin 9, x u v k * x u v k :=
    Finset.single_le_sum (f := fun v => ∑ k : Fin 9, x u v k * x u v k)
      (fun v _ => Finset.sum_nonneg fun k _ => mul_self_nonneg (x u v k)) (Finset.mem_univ v)
  have hu : (∑ v : Fin 2, ∑ k : Fin 9, x u v k * x u v k) ≤ lenSq x :=
    Finset.single_le_sum (f := fun u => ∑ v : Fin 2, ∑ k : Fin 9, x u v k * x u v k)
      (fun u _ => Finset.sum_nonneg fun v _ => Finset.sum_nonneg fun k _ => mul_self_nonneg (x u v k)) (Finset.mem_univ u)
  exact hk.trans (hv.trans hu)

/-- A block brought to length 1 has no entry above 1 in absolute value. -/
theorem unit_le (x : Fin 2 → Fin 2 → Fin 9 → ℝ) (u v : Fin 2) (k : Fin 9) : |unitR x u v k| ≤ 1 := by
  unfold unitR
  rw [abs_div, abs_of_pos (len_pos x), div_le_one (len_pos x)]
  refine (Real.abs_le_sqrt ?_).trans (le_add_of_nonneg_right HogWords.tiny_pos.le)
  rw [pow_two]
  exact sq_le_len x u v k

/-- The same as the predicate's comparison says it, over the extended reals. -/
theorem entry_le (D : Fin 16 → Fin 3 → EChan) (i : Cert.KernelIdeal.S16x31x31x2x2x9.Idx) :
    max (HogResult.blocks D i) (-HogResult.blocks D i) ≤ Ideal.ofBits .f32 0x3F800000#32 := by
  have h : |hogE (D (i 0)) (i 1) (i 2) (i 3) (i 4) (i 5)| ≤ 1 := unit_le (cutE (D (i 0)) (i 1) (i 2)) (i 3) (i 4) (i 5)
  rw [HogWords.f32_1]
  unfold HogResult.blocks
  exact max_le (EReal.coe_le_coe_iff.2 (abs_le.1 h).2) (EReal.coe_le_coe_iff.2 (neg_le.1 (abs_le.1 h).1))

/-- The predicate holds of the blocks, whatever the images. -/
theorem post (x0 : Vec Ideal Cert.KernelIdeal.S16x3x512x512 .f32) (D : Fin 16 → Fin 3 → EChan) :
    Cert.Post_within_one.fn (F := Ideal) x0 (shapeCast Cert.KernelIdeal.S16x1x31x31x2x2x9 (HogResult.blocks D)
      Cert.KernelIdeal.Gen.shapeCasts_S16x31x31x2x2x9_S16x1x31x31x2x2x9) = fun _ => 1#1 := by
  funext j
  exact (HogScalars.one_iff _).2 (entry_le D (Shape.reshapeEquiv Cert.KernelIdeal.Gen.shapeCasts_S16x31x31x2x2x9_S16x1x31x31x2x2x9 j))

/-- Every run of the kernel over the extended reals ends with no entry above 1 in absolute value. -/
theorem holds : Cert.holds_KernelIdeal_within_one := by
  intro m g _
  refine (θ_run Cert.KernelIdeal.defs _ _).mono (fun r h c => ⟨(h c).2, ?_⟩)
    (HogResult.run m g (fun c => HogRef.images (HogArray.arg m c)) (fun _ _ _ _ _ => rfl))
  rw [(h c).1]
  exact post _ _

end Cert.HogWithin

end
-- ==== Proof.lean ====
/- The proof of the certificate's claims: the frames of the four programs, the named constants, the equation of the kernel and the
   reference over the extended reals, and the bound of the result's entries. -/
module

public import proofs.«01_k».proof.Defs
public import proofs.«01_k».proof.Proof.Gen.Kernel
public import proofs.«01_k».proof.Proof.Gen.KernelIdeal
public import proofs.«01_k».proof.Proof.Gen.Reference
public import proofs.«01_k».proof.Proof.Gen.ReferenceIdeal
public import proofs.«01_k».proof.Proof.Frames
public import proofs.«01_k».proof.Proof.Equation
public import proofs.«01_k».proof.Proof.Within

@[expose] public section

noncomputable section

namespace Cert.Proof

open Cert.HogClaims

/-- Every claim of the certificate. -/
theorem claim : Cert.Claim :=
  ⟨Cert.Kernel.Gen.facts, Cert.KernelIdeal.Gen.facts, Cert.Reference.Gen.facts, Cert.ReferenceIdeal.Gen.facts, Cert.HogWithin.facts,
    frame_kernel, frame_ideal, frame_reference_printed, frame_reference, preserves, Cert.HogEquation.equation, Cert.HogWithin.holds⟩

end Cert.Proof

end
